-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x2x1024x1024 : Shape := ⟨4, ![2, 2, 1024, 1024]⟩
abbrev S2x1024x1024 : Shape := ⟨3, ![2, 1024, 1024]⟩
abbrev S3x1024x1024 : Shape := ⟨3, ![3, 1024, 1024]⟩
abbrev S2x2 : Shape := ⟨2, ![2, 2]⟩
abbrev S2x3x2 : Shape := ⟨3, ![2, 3, 2]⟩
abbrev S1x1 : Shape := ⟨2, ![1, 1]⟩
abbrev S_ : Shape := ⟨0, ![]⟩
abbrev S1x1x1024x1024 : Shape := ⟨4, ![1, 1, 1024, 1024]⟩
abbrev S1024x1024 : Shape := ⟨2, ![1024, 1024]⟩
abbrev S1x1024x1024 : Shape := ⟨3, ![1, 1024, 1024]⟩
abbrev S1x1x1 : Shape := ⟨3, ![1, 1, 1]⟩
abbrev S1x512x1024 : Shape := ⟨3, ![1, 512, 1024]⟩
abbrev S512x1024 : Shape := ⟨2, ![512, 1024]⟩
abbrev S1x1x512x1024 : Shape := ⟨4, ![1, 1, 512, 1024]⟩

abbrev nBuf : Space → Nat
  | .hbm => 2
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S8192x1024, .bf16⟩
  | .local _ .vmem, ⟨1, _⟩ => ⟨S2x2x1024x1024, .f32⟩
  | .local _ .vmem, ⟨2, _⟩ => ⟨S2x1024x1024, .bf16⟩
  | .local _ .vmem, ⟨3, _⟩ => ⟨S3x1024x1024, .bf16⟩
  | .local _ .vmem, ⟨4, _⟩ => ⟨S3x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  let v9 : BitVec 32 := Scalar.addi c0_i32 v8
  let c0_i32_11 : BitVec 32 := 0#32
  ![v9.toNat, 0]
def k0_off2 (d0 : Dev nD) (c0_i32_12 : BitVec 32) : Fin 2 → Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.subi v2 c0_i32_12
  let c1_i32_13 : BitVec 32 := 1#32
  let v16 : BitVec 32 := Scalar.subi v15 c1_i32_13
  let c4_i32_14 : BitVec 32 := 4#32
  let v17 : BitVec 32 := Scalar.addi v16 c4_i32_14
  let c4_i32_15 : BitVec 32 := 4#32
  let v18 : BitVec 32 := Scalar.remsi v17 c4_i32_15
  let c1024_i32_16 : BitVec 32 := 1024#32
  let v19 : BitVec 32 := Scalar.muli v18 c1024_i32_16
  let v20 : BitVec 32 := Scalar.addi c0_i32_17 v19
  let c0_i32_24 : BitVec 32 := 0#32
  ![v20.toNat, 0]
def k0_off3 (d0 : Dev nD) (c0_i32_33 : BitVec 32) : Fin 2 → Nat :=
  let c4096_i32_37 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.addi v2 c0_i32_33
  let c1_i32_34 : BitVec 32 := 1#32
  let v34 : BitVec 32 := Scalar.addi v33 c1_i32_34
  let c4_i32_35 : BitVec 32 := 4#32
  let v35 : BitVec 32 := Scalar.remsi v34 c4_i32_35
  let c1024_i32_36 : BitVec 32 := 1024#32
  let v36 : BitVec 32 := Scalar.muli v35 c1024_i32_36
  let v37 : BitVec 32 := Scalar.addi c4096_i32_37 v36
  let c0_i32_44 : BitVec 32 := 0#32
  ![v37.toNat, 0]
def k0_dev1 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_46 : BitVec 32 := 1#32
  let v44 : BitVec 32 := Scalar.muli v5 c1_i32_46
  let v45 : BitVec 32 := Scalar.addi c0_i32_47 v44
  v45.toNat
def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_49 : BitVec 32 := 1#32
  let v46 : BitVec 32 := Scalar.muli v7 c1_i32_49
  let v47 : BitVec 32 := Scalar.addi c0_i32_50 v46
  v47.toNat
def k0_dev3 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_74 : BitVec 32 := 1#32
  let v61 : BitVec 32 := Scalar.muli v7 c1_i32_74
  let v62 : BitVec 32 := Scalar.addi c0_i32_75 v61
  v62.toNat
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_88 : BitVec 32 := 1#32
  let v71 : BitVec 32 := Scalar.muli v7 c1_i32_88
  let v72 : BitVec 32 := Scalar.addi c0_i32_89 v71
  v72.toNat
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_129 : BitVec 32 := 1#32
  let v105 : BitVec 32 := Scalar.muli v5 c1_i32_129
  let v106 : BitVec 32 := Scalar.addi c0_i32_130 v105
  v106.toNat
def k0_dev6 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_143 : BitVec 32 := 1#32
  let v115 : BitVec 32 := Scalar.muli v5 c1_i32_143
  let v116 : BitVec 32 := Scalar.addi c0_i32_144 v115
  v116.toNat
def k0_dev7 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_218 : BitVec 32 := 1#32
  let v173 : BitVec 32 := Scalar.muli v7 c1_i32_218
  let v174 : BitVec 32 := Scalar.addi c0_i32_219 v173
  v174.toNat
def k0_dev8 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_256 : BitVec 32 := 1#32
  let v200 : BitVec 32 := Scalar.muli v5 c1_i32_256
  let v201 : BitVec 32 := Scalar.addi c0_i32_257 v200
  v201.toNat
def k0_dev9 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_293 : BitVec 32 := 1#32
  let v227 : BitVec 32 := Scalar.muli v7 c1_i32_293
  let v228 : BitVec 32 := Scalar.addi c0_i32_294 v227
  v228.toNat
def k0_dev10 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_331 : BitVec 32 := 1#32
  let v254 : BitVec 32 := Scalar.muli v5 c1_i32_331
  let v255 : BitVec 32 := Scalar.addi c0_i32_332 v254
  v255.toNat
def k0_dev11 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_419 : BitVec 32 := 1#32
  let v323 : BitVec 32 := Scalar.muli v7 c1_i32_419
  let v324 : BitVec 32 := Scalar.addi c0_i32_420 v323
  v324.toNat
def k0_dev12 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_457 : BitVec 32 := 1#32
  let v350 : BitVec 32 := Scalar.muli v5 c1_i32_457
  let v351 : BitVec 32 := Scalar.addi c0_i32_458 v350
  v351.toNat
def k0_dev13 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_495 : BitVec 32 := 1#32
  let v377 : BitVec 32 := Scalar.muli v7 c1_i32_495
  let v378 : BitVec 32 := Scalar.addi c0_i32_496 v377
  v378.toNat
def k0_dev14 (d0 : Dev nD) : Nat :=
  let c0_i32_534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_533 : BitVec 32 := 1#32
  let v404 : BitVec 32 := Scalar.muli v5 c1_i32_533
  let v405 : BitVec 32 := Scalar.addi c0_i32_534 v404
  v405.toNat
def k0_off4 (d0 : Dev nD) (c0_i32_590 : BitVec 32) : Fin 2 → Nat :=
  let c0_i32_589 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_578 : BitVec 32 := 2#32
  let v443 : BitVec 32 := Scalar.subi v2 c2_i32_578
  let c1_i32_579 : BitVec 32 := 1#32
  let v444 : BitVec 32 := Scalar.subi v443 c1_i32_579
  let c4_i32_580 : BitVec 32 := 4#32
  let v445 : BitVec 32 := Scalar.addi v444 c4_i32_580
  let c4_i32_581 : BitVec 32 := 4#32
  let v446 : BitVec 32 := Scalar.remsi v445 c4_i32_581
  let c1024_i32_588 : BitVec 32 := 1024#32
  let v453 : BitVec 32 := Scalar.muli v446 c1024_i32_588
  let v454 : BitVec 32 := Scalar.addi c0_i32_589 v453
  let v455 : BitVec 32 := Scalar.addi v454 c0_i32_590
  let v456 : Index := Scalar.indexCast v455
  let c0_591 : Index := 0#32
  ![v456.toNat, 0]
def k0_off5 (d0 : Dev nD) (c0_i32_593 : BitVec 32) (c0_i32_598 : BitVec 32) : Fin 2 → Nat :=
  let c0_i32_597 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_592 : BitVec 32 := 1#32
  let v458 : BitVec 32 := Scalar.addi v2 c1_i32_592
  let v459 : BitVec 32 := Scalar.subi v458 c0_i32_593
  let c4_i32_594 : BitVec 32 := 4#32
  let v460 : BitVec 32 := Scalar.addi v459 c4_i32_594
  let c4_i32_595 : BitVec 32 := 4#32
  let v461 : BitVec 32 := Scalar.remsi v460 c4_i32_595
  let c1024_i32_596 : BitVec 32 := 1024#32
  let v462 : BitVec 32 := Scalar.muli v461 c1024_i32_596
  let v463 : BitVec 32 := Scalar.addi c0_i32_597 v462
  let v464 : BitVec 32 := Scalar.addi v463 c0_i32_598
  let c0_i32_607 : BitVec 32 := 0#32
  ![v464.toNat, 0]
def k0_dev15 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_605 : BitVec 32 := 1#32
  let v465 : BitVec 32 := Scalar.muli v7 c1_i32_605
  let v466 : BitVec 32 := Scalar.addi c0_i32_606 v465
  v466.toNat
def k0_off6 (d0 : Dev nD) (c0_i32_635 : BitVec 32) : Fin 2 → Nat :=
  let c4096_i32_634 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_623 : BitVec 32 := 2#32
  let v481 : BitVec 32 := Scalar.addi v2 c2_i32_623
  let c1_i32_624 : BitVec 32 := 1#32
  let v482 : BitVec 32 := Scalar.addi v481 c1_i32_624
  let c4_i32_625 : BitVec 32 := 4#32
  let v483 : BitVec 32 := Scalar.remsi v482 c4_i32_625
  let c1024_i32_633 : BitVec 32 := 1024#32
  let v490 : BitVec 32 := Scalar.muli v483 c1024_i32_633
  let v491 : BitVec 32 := Scalar.addi c4096_i32_634 v490
  let v492 : BitVec 32 := Scalar.addi v491 c0_i32_635
  let v493 : Index := Scalar.indexCast v492
  let c0_636 : Index := 0#32
  ![v493.toNat, 0]
def k0_off7 (d0 : Dev nD) (c0_i32_637 : BitVec 32) (c0_i32_641 : BitVec 32) : Fin 2 → Nat :=
  let c4096_i32_640 : BitVec 32 := 4096#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v495 : BitVec 32 := Scalar.addi v2 c3_i32
  let v496 : BitVec 32 := Scalar.addi v495 c0_i32_637
  let c4_i32_638 : BitVec 32 := 4#32
  let v497 : BitVec 32 := Scalar.remsi v496 c4_i32_638
  let c1024_i32_639 : BitVec 32 := 1024#32
  let v498 : BitVec 32 := Scalar.muli v497 c1024_i32_639
  let v499 : BitVec 32 := Scalar.addi c4096_i32_640 v498
  let v500 : BitVec 32 := Scalar.addi v499 c0_i32_641
  let c0_i32_650 : BitVec 32 := 0#32
  ![v500.toNat, 0]
def k0_dev16 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_648 : BitVec 32 := 1#32
  let v501 : BitVec 32 := Scalar.muli v5 c1_i32_648
  let v502 : BitVec 32 := Scalar.addi c0_i32_649 v501
  v502.toNat
def k0_dev17 (d0 : Dev nD) : Nat :=
  let c0_i32_695 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_694 : BitVec 32 := 1#32
  let v539 : BitVec 32 := Scalar.muli v7 c1_i32_694
  let v540 : BitVec 32 := Scalar.addi c0_i32_695 v539
  v540.toNat
def k0_dev18 (d0 : Dev nD) : Nat :=
  let c0_i32_739 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_738 : BitVec 32 := 1#32
  let v575 : BitVec 32 := Scalar.muli v5 c1_i32_738
  let v576 : BitVec 32 := Scalar.addi c0_i32_739 v575
  v576.toNat
def k0_dev19 (d0 : Dev nD) : Nat :=
  let c0_i32_773 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_772 : BitVec 32 := 1#32
  let v603 : BitVec 32 := Scalar.muli v7 c1_i32_772
  let v604 : BitVec 32 := Scalar.addi c0_i32_773 v603
  v604.toNat
def k0_dev20 (d0 : Dev nD) : Nat :=
  let c0_i32_805 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_804 : BitVec 32 := 1#32
  let v629 : BitVec 32 := Scalar.muli v5 c1_i32_804
  let v630 : BitVec 32 := Scalar.addi c0_i32_805 v629
  v630.toNat
def k0_dev21 (d0 : Dev nD) : Nat :=
  let c0_i32_839 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_838 : BitVec 32 := 1#32
  let v657 : BitVec 32 := Scalar.muli v7 c1_i32_838
  let v658 : BitVec 32 := Scalar.addi c0_i32_839 v657
  v658.toNat
def k0_dev22 (d0 : Dev nD) : Nat :=
  let c0_i32_871 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_870 : BitVec 32 := 1#32
  let v683 : BitVec 32 := Scalar.muli v5 c1_i32_870
  let v684 : BitVec 32 := Scalar.addi c0_i32_871 v683
  v684.toNat
def k0_dev23 (d0 : Dev nD) : Nat :=
  let c0_i32_905 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_904 : BitVec 32 := 1#32
  let v711 : BitVec 32 := Scalar.muli v7 c1_i32_904
  let v712 : BitVec 32 := Scalar.addi c0_i32_905 v711
  v712.toNat
def k0_dev24 (d0 : Dev nD) : Nat :=
  let c0_i32_937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_936 : BitVec 32 := 1#32
  let v737 : BitVec 32 := Scalar.muli v5 c1_i32_936
  let v738 : BitVec 32 := Scalar.addi c0_i32_937 v737
  v738.toNat
def k0_dev25 (d0 : Dev nD) : Nat :=
  let c0_i32_971 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_970 : BitVec 32 := 1#32
  let v765 : BitVec 32 := Scalar.muli v7 c1_i32_970
  let v766 : BitVec 32 := Scalar.addi c0_i32_971 v765
  v766.toNat
def k0_dev26 (d0 : Dev nD) : Nat :=
  let c0_i32_1003 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_1002 : BitVec 32 := 1#32
  let v791 : BitVec 32 := Scalar.muli v5 c1_i32_1002
  let v792 : BitVec 32 := Scalar.addi c0_i32_1003 v791
  v792.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/-
# The kernel's program, written once per kind of step

The printed body is a straight line of about 150 memory and semaphore operations.  Here the operations are written
as a few steps, each a function of the direction `d` (0: clockwise, 1: anticlockwise), the hop `h`, and the half `s`
of the chunk; the body is then their sequence (`body`), and `body_eq` states that the printed body is this one.
-/
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.KernelIdeal.Ring

open Cert.KernelIdeal Cert.KernelIdeal.Gen
open Idealize.ShloMosaic Idealize.ShloMosaic.TcCoe
open Idealize.SL.Sem

variable {F : FTy → Type} [FloatOps F]

/-- The effects of a core's kernel. -/
abbrev KEff (F : FTy → Type) [FloatOps F] : Type → Type _ := TpuEff nD τ sig (Elt F) Λ₀ .tc

/-! ## The buffers and their pieces -/

/-- The argument's shard, in HBM. -/
abbrev xM : Memref sig .tc .hbm S8192x1024 .f32 := Memref.whole main_arg0
/-- The result, staged in VMEM. -/
abbrev oM : Memref sig .tc .vmem S8192x1024 .bf16 := Memref.whole cc0_stg0_0
/-- The two slots per direction into which chunks of the argument are fetched. -/
abbrev stM : Memref sig .tc .vmem S2x2x1024x1024 .f32 := Memref.whole cc0_scratch0
/-- The first chunk each direction sends, narrowed. -/
abbrev sdM : Memref sig .tc .vmem S2x1024x1024 .bf16 := Memref.whole cc0_scratch1
/-- The landing buffer of the reduce-scatter, one per direction. -/
abbrev rvM : Fin 2 → Memref sig .tc .vmem S3x1024x1024 .bf16
  | 0 => Memref.whole cc0_scratch2
  | 1 => Memref.whole cc0_scratch3

theorem rvM_whole : ∀ d : Fin 2, (rvM d).IsWhole
  | 0 => Memref.isWhole_whole _
  | 1 => Memref.isWhole_whole _

theorem inb_st (d sl : Fin 2) (a) : (![d.val, sl.val, 0, 0] : Fin 4 → ℕ) a + S1x1x1024x1024.size a ≤ S2x2x1024x1024.size a := by
  revert d sl a; decide
theorem inb_sth (d sl s : Fin 2) (a) : (![d.val, sl.val, 512 * s.val, 0] : Fin 4 → ℕ) a + S1x1x512x1024.size a ≤ S2x2x1024x1024.size a := by
  revert d sl s a; decide
theorem inb_sd (d : Fin 2) (a) : (![d.val, 0, 0] : Fin 3 → ℕ) a + S1x1024x1024.size a ≤ S2x1024x1024.size a := by
  revert d a; decide
theorem inb_sdh (d s : Fin 2) (a) : (![d.val, 512 * s.val, 0] : Fin 3 → ℕ) a + S1x512x1024.size a ≤ S2x1024x1024.size a := by
  revert d s a; decide
theorem inb_rv (h : Fin 3) (s : Fin 2) (a) : (![h.val, 512 * s.val, 0] : Fin 3 → ℕ) a + S1x512x1024.size a ≤ S3x1024x1024.size a := by
  revert h s a; decide
theorem inb_sem (d : Fin 2) (h : Fin 3) (s : Fin 2) (a) : (![d.val, h.val, s.val] : Fin 3 → ℕ) a + S1x1x1.size a ≤ S2x3x2.size a := by
  revert d h s a; decide
theorem inb_fsem (d sl : Fin 2) (a) : (![d.val, sl.val] : Fin 2 → ℕ) a + S1x1.size a ≤ S2x2.size a := by
  revert d sl a; decide

abbrev stR (d sl : Fin 2) : Rect S2x2x1024x1024 := Rect.unit (s := S2x2x1024x1024) ![d.val, sl.val, 0, 0] S1x1x1024x1024.size (inb_st d sl)
abbrev sthR (d sl s : Fin 2) : Rect S2x2x1024x1024 := Rect.unit (s := S2x2x1024x1024) ![d.val, sl.val, 512 * s.val, 0] S1x1x512x1024.size (inb_sth d sl s)
abbrev sdR (d : Fin 2) : Rect S2x1024x1024 := Rect.unit (s := S2x1024x1024) ![d.val, 0, 0] S1x1024x1024.size (inb_sd d)
abbrev sdhR (d s : Fin 2) : Rect S2x1024x1024 := Rect.unit (s := S2x1024x1024) ![d.val, 512 * s.val, 0] S1x512x1024.size (inb_sdh d s)
abbrev rvR (h : Fin 3) (s : Fin 2) : Rect S3x1024x1024 := Rect.unit (s := S3x1024x1024) ![h.val, 512 * s.val, 0] S1x512x1024.size (inb_rv h s)

/-- Slot `sl` of direction `d`'s staging. -/
abbrev stP (d sl : Fin 2) : Memref sig .tc .vmem S1024x1024 .f32 := (stM.slice (stR d sl) (fun _ => rfl)).squeeze S1024x1024 squeezes_S1x1x1024x1024_S1024x1024
/-- Half `s` of direction `d`'s first chunk. -/
abbrev sdP (d s : Fin 2) : Memref sig .tc .vmem S512x1024 .bf16 := (sdM.slice (sdhR d s) (fun _ => rfl)).squeeze S512x1024 squeezes_S1x512x1024_S512x1024
/-- Where half `s` of hop `h` of direction `d` lands. -/
abbrev rvP (d : Fin 2) (h : Fin 3) (s : Fin 2) : Memref sig .tc .vmem S512x1024 .bf16 := ((rvM d).slice (rvR h s) (fun _ => rfl)).squeeze S512x1024 squeezes_S1x512x1024_S512x1024

theorem sd_exact (d s : Fin 2) : (sdP d s).view.WordExact :=
  ((Memref.isWhole_whole cc0_scratch1).wordExact_slice rfl _ (by revert d s; decide +kernel)).reshape _ _
theorem rv_exact (d : Fin 2) (h : Fin 3) (s : Fin 2) : (rvP d h s).view.WordExact :=
  ((rvM_whole d).wordExact_slice rfl _ (by revert h s; decide +kernel)).reshape _ _

/-! ### The argument's chunks and the result's, as the program addresses them -/

/-- The offset of the `i`-th chunk direction `d` fetches on device `c`. -/
def xOff (c : Dev nD) : Fin 2 → Fin 4 → Fin 2 → ℕ
  | 0, 0 => k0_off1 c 0#32
  | 0, 1 => k0_off2 c 0#32
  | 0, 2 => k0_off2 c 1#32
  | 0, 3 => k0_off2 c 2#32
  | 1, 0 => k0_off1 c 4096#32
  | 1, 1 => k0_off3 c 0#32
  | 1, 2 => k0_off3 c 1#32
  | 1, 3 => k0_off3 c 2#32
theorem xOff_inb (c : Dev nD) : ∀ (d : Fin 2) (i : Fin 4) (a), xOff c d i a + S1024x1024.size a ≤ S8192x1024.size a
  | 0, 0 => k0_off1_inb c 0
  | 0, 1 => k0_off2_inb c 0
  | 0, 2 => k0_off2_inb c 1
  | 0, 3 => k0_off2_inb c 2
  | 1, 0 => k0_off1_inb c 1
  | 1, 1 => k0_off3_inb c 0
  | 1, 2 => k0_off3_inb c 1
  | 1, 3 => k0_off3_inb c 2
abbrev xS (c : Dev nD) (d : Fin 2) (i : Fin 4) : Memref sig .tc .hbm S1024x1024 .f32 :=
  xM.slice (Rect.unit (s := S8192x1024) (xOff c d i) S1024x1024.size (xOff_inb c d i)) (fun _ => rfl)

/-- The offset at which direction `d` sends half `s` of the `h`-th chunk of the all-gather. -/
def oOff (c : Dev nD) : Fin 2 → Fin 3 → Fin 2 → Fin 2 → ℕ
  | 0, h, s => k0_off5 c (BitVec.ofNat 32 h.val) (BitVec.ofNat 32 (512 * s.val))
  | 1, h, s => k0_off7 c (BitVec.ofNat 32 h.val) (BitVec.ofNat 32 (512 * s.val))
theorem oOff_inb (c : Dev nD) : ∀ (d : Fin 2) (h : Fin 3) (s : Fin 2) (a), oOff c d h s a + S512x1024.size a ≤ S8192x1024.size a
  | 0, h, s => k0_off5_inb c h s
  | 1, h, s => k0_off7_inb c h s
theorem oOff_words (c : Dev nD) : ∀ (d : Fin 2) (h : Fin 3) (s : Fin 2),
    (Rect.unit (s := S8192x1024) (oOff c d h s) S512x1024.size (oOff_inb c d h s)).WholeWords (EltTy.packing .bf16)
  | 0, h, s => k0_off5_wordsbf16 c h s
  | 1, h, s => k0_off7_wordsbf16 c h s
abbrev oS (c : Dev nD) (d : Fin 2) (h : Fin 3) (s : Fin 2) : Memref sig .tc .vmem S512x1024 .bf16 :=
  oM.slice (Rect.unit (s := S8192x1024) (oOff c d h s) S512x1024.size (oOff_inb c d h s)) (fun _ => rfl)
theorem oS_exact (c : Dev nD) (d : Fin 2) (h : Fin 3) (s : Fin 2) : (oS c d h s).view.WordExact :=
  (Memref.isWhole_whole cc0_stg0_0).wordExact_slice rfl _ (oOff_words c d h s)

/-- The offset at which direction `d` stores half `s` of its own reduced chunk. -/
def pOff (c : Dev nD) : Fin 2 → Fin 2 → Fin 2 → ℕ
  | 0, s => k0_off4 c (BitVec.ofNat 32 (512 * s.val))
  | 1, s => k0_off6 c (BitVec.ofNat 32 (512 * s.val))
theorem pOff_inb (c : Dev nD) : ∀ (d : Fin 2) (s : Fin 2) (a), pOff c d s a + S512x1024.size a ≤ S8192x1024.size a
  | 0, s => k0_off4_inb c s
  | 1, s => k0_off6_inb c s
theorem pOff_packed (c : Dev nD) : ∀ (d : Fin 2) (s : Fin 2),
    (Rect.unit (s := S8192x1024) (pOff c d s) S512x1024.size (pOff_inb c d s)).PackedRows (EltTy.packing .bf16)
  | 0, s => k0_off4_packedbf16 c s
  | 1, s => k0_off6_packedbf16 c s
abbrev pR (c : Dev nD) (d s : Fin 2) : Rect S8192x1024 := Rect.unit (s := S8192x1024) (pOff c d s) S512x1024.size (pOff_inb c d s)

/-! ## The semaphores and the neighbours -/

/-- The collective's entry semaphore. -/
abbrev barS : Sem sig := (SemArray.scalar (sig.barrier 0 rfl) : Sems sig S_).sem
/-- The semaphore on which a fetch into slot `sl` of direction `d` completes. -/
abbrev fS (d sl : Fin 2) : DmaSem sig := ((cc0_scratch4.slice (Rect.unit (s := S2x2) ![d.val, sl.val] S1x1.size (inb_fsem d sl))).squeeze S_ squeezes_S1x1_S_).sem
/-- The four arrays of copy semaphores: reduce-scatter sent (0) and arrived (1), all-gather sent (2) and arrived (3). -/
abbrev semArr : Fin 4 → DmaSems sig S2x3x2
  | 0 => cc0_scratch5 | 1 => cc0_scratch6 | 2 => cc0_scratch7 | 3 => cc0_scratch8
abbrev cS (f : Fin 4) (d : Fin 2) (h : Fin 3) (s : Fin 2) : DmaSem sig :=
  (((semArr f).slice (Rect.unit (s := S2x3x2) ![d.val, h.val, s.val] S1x1x1.size (inb_sem d h s))).squeeze S_ squeezes_S1x1x1_S_).sem

/-- The device direction `d` sends to. -/
abbrev toDev (c : Dev nD) : Fin 2 → Dev nD
  | 0 => ⟨k0_dev2 c, k0_dev2_lt c⟩
  | 1 => ⟨k0_dev1 c, k0_dev1_lt c⟩

/-! ## The steps -/

/-- Start fetching the `i`-th chunk of direction `d` into slot `sl`. -/
def fetch (c : Dev nD) (d : Fin 2) (i : Fin 4) (sl : Fin 2) : Prog (KEff F) PUnit :=
  Prog.lift (.enqueueDma (xS c d i) (.here (stP d sl)) (.dma (fS d sl)) (View.wordExact_bits rfl) ((View.wordExact_bits rfl).reshape _ _) ⟨Or.inl rfl, trivial⟩)
/-- Wait until it has arrived. -/
def fetched (c : Dev nD) (d : Fin 2) (i : Fin 4) (sl : Fin 2) : Prog (KEff F) PUnit :=
  Prog.lift (.waitDma2 (fS d sl) (xS c d i) (stP d sl) (View.wordExact_bits rfl) ((View.wordExact_bits rfl).reshape _ _))

/-- Narrow the fetched chunk into the buffer the first hop sends from. -/
def narrow (d : Fin 2) : Prog (KEff F) PUnit := do
  let v : Vec F S1x1x1024x1024 .f32 ← Prog.lift (.load stM (stR d 0).toLoadRect (View.loadsAt_vmem h_S1x1x1024x1024))
  let _ : Vec F S1x1024x1024 .bf16 ← Prog.lift (.load sdM (sdR d).toLoadRect (View.loadsAt_vmem h_S1x1024x1024))
  Prog.lift (.store sdM (sdR d) (k0_pay1 v) Finset.univ
    (View.stores_vmem h_S1x1024x1024 ((Memref.isWhole_whole cc0_scratch1).storeExact_slice rfl _ (by revert d; decide +kernel)) (fun _ => rfl)) (.inl rfl))

/-- The half chunk hop `h` of the reduce-scatter sends. -/
abbrev rsSrc (d : Fin 2) : Fin 3 → Fin 2 → Memref sig .tc .vmem S512x1024 .bf16
  | 0, s => sdP d s
  | 1, s => rvP d 0 s
  | 2, s => rvP d 1 s
theorem rsSrc_exact (d : Fin 2) : ∀ (h : Fin 3) (s : Fin 2), (rsSrc d h s).view.WordExact
  | 0, s => sd_exact d s
  | 1, s => rv_exact d 0 s
  | 2, s => rv_exact d 1 s

theorem rv_noScratch (d : Fin 2) (h : Fin 3) (s : Fin 2) : (rvP d h s).view.ref.isScScratch = false := by
  match d with
  | 0 => rfl
  | 1 => rfl

/-- Start sending half `s` of hop `h` of the reduce-scatter. -/
def rsSend (c : Dev nD) (d : Fin 2) (h : Fin 3) (s : Fin 2) : Prog (KEff F) PUnit :=
  Prog.lift (.enqueueDma (rsSrc d h s) (.remote (Dev.tc (toDev c d)) (rvP d h s) (.dma (cS 0 d h s)) (rv_noScratch d h s)) (.dma (cS 1 d h s))
    (rsSrc_exact d h s) (rv_exact d h s) ⟨⟨rfl, Or.inl rfl⟩, trivial⟩)
/-- Wait until half `s` of hop `h` of the reduce-scatter has arrived. -/
def rsRecv (d : Fin 2) (h : Fin 3) (s : Fin 2) : Prog (KEff F) PUnit :=
  Prog.lift (.waitDma2 (cS 1 d h s) (rsSrc d h s) (rvP d h s) (rsSrc_exact d h s) (rv_exact d h s))
/-- Wait until the send of half `s` of hop `h` of the reduce-scatter has left. -/
def rsDone (d : Fin 2) (h : Fin 3) (s : Fin 2) : Prog (KEff F) PUnit :=
  Prog.lift (.waitDma2 (cS 0 d h s) (rvP d h s) (rsSrc d h s) (rv_exact d h s) (rsSrc_exact d h s))

/-- Add the fetched chunk in slot `sl` to the half chunk that hop `h` brought. -/
def accum (d : Fin 2) (h : Fin 3) (s : Fin 2) (sl : Fin 2) : Prog (KEff F) PUnit := do
  let a : Vec F S1x512x1024 .bf16 ← Prog.lift (.load (rvM d) (rvR h s).toLoadRect (View.loadsAt_vmem h_S1x512x1024))
  let b : Vec F S1x1x512x1024 .f32 ← Prog.lift (.load stM (sthR d sl s).toLoadRect (View.loadsAt_vmem h_S1x1x512x1024))
  let _ : Vec F S1x512x1024 .bf16 ← Prog.lift (.load (rvM d) (rvR h s).toLoadRect (View.loadsAt_vmem h_S1x512x1024))
  Prog.lift (.store (rvM d) (rvR h s) (k0_pay3 a b) Finset.univ
    (View.stores_vmem h_S1x512x1024 ((rvM_whole d).storeExact_slice rfl _ (by revert h s; decide +kernel)) (fun _ => rfl)) (.inl rfl))

/-- Add the last chunk and store the reduced half chunk in the result. -/
def finish (c : Dev nD) (d s : Fin 2) : Prog (KEff F) PUnit := do
  let a : Vec F S1x512x1024 .bf16 ← Prog.lift (.load (rvM d) (rvR 2 s).toLoadRect (View.loadsAt_vmem h_S1x512x1024))
  let b : Vec F S1x1x512x1024 .f32 ← Prog.lift (.load stM (sthR d 1 s).toLoadRect (View.loadsAt_vmem h_S1x1x512x1024))
  let _ : Vec F S512x1024 .bf16 ← Prog.lift (.load oM (pR c d s).toLoadRect (View.loadsAt_vmem h_S512x1024))
  Prog.lift (.store oM (pR c d s) (k0_pay15 a b) Finset.univ
    (View.stores_vmem h_S512x1024 ((Memref.isWhole_whole cc0_stg0_0).storeExact_slice rfl _ (pOff_packed c d s)) (fun _ => rfl)) (.inl rfl))

/-- Start sending half `s` of hop `h` of the all-gather. -/
def agSend (c : Dev nD) (d : Fin 2) (h : Fin 3) (s : Fin 2) : Prog (KEff F) PUnit :=
  Prog.lift (.enqueueDma (oS c d h s) (.remote (Dev.tc (toDev c d)) (oS c d h s) (.dma (cS 2 d h s))) (.dma (cS 3 d h s))
    (oS_exact c d h s) (oS_exact c d h s) ⟨⟨rfl, Or.inl rfl⟩, trivial⟩)
/-- Wait for the all-gather's semaphore `f` (2: sent, 3: arrived) of half `s` of hop `h`. -/
def agWait (c : Dev nD) (f : Fin 4) (d : Fin 2) (h : Fin 3) (s : Fin 2) : Prog (KEff F) PUnit :=
  Prog.lift (.waitDma2 (cS f d h s) (oS c d h s) (oS c d h s) (oS_exact c d h s) (oS_exact c d h s))

/-- Tell both neighbours that this device's landing buffers are ready, and wait for both. -/
def barrier (c : Dev nD) : Prog (KEff F) PUnit := do
  semSignalWord (toDev c 1) barS 1#32
  semSignalWord (toDev c 0) barS 1#32
  semWaitWord barS 2#32

/-! ## The phases and the body -/

/-- The first two chunks of both directions are fetched. -/
def open1 (c : Dev nD) : Prog (KEff F) PUnit := do
  fetch c 0 0 0; fetch c 0 1 1; fetch c 1 0 0; fetch c 1 1 1

/-- Direction `d` starts its reduce-scatter. -/
def start (c : Dev nD) (d : Fin 2) : Prog (KEff F) PUnit := do
  fetched c d 0 0; narrow d; rsSend c d 0 0; rsSend c d 0 1; fetch c d 2 0

/-- Hop `h` (1 or 2) of the reduce-scatter, on half `s` of direction `d`: `h'` is the hop before. -/
def hop (c : Dev nD) (h' h : Fin 3) (sl d s : Fin 2) : Prog (KEff F) PUnit := do
  rsRecv d h' s; accum d h' s sl; rsSend c d h s

def last (c : Dev nD) (d s : Fin 2) : Prog (KEff F) PUnit := do
  rsRecv d 2 s; finish c d s; agSend c d 0 s

def pass (c : Dev nD) (h' h : Fin 3) (d s : Fin 2) : Prog (KEff F) PUnit := do
  agWait c 3 d h' s; agSend c d h s

def drain (c : Dev nD) (h : Fin 3) (d s : Fin 2) : Prog (KEff F) PUnit := do
  rsDone d h s; agWait c 2 d h s

/-- The body on device `c`. -/
def bodyOn (c : Dev nD) : Prog (KEff F) PUnit := do
  open1 c; barrier c
  start c 0; start c 1
  fetched c 0 1 1; fetched c 1 1 1
  hop c 0 1 1 0 0; hop c 0 1 1 1 0; hop c 0 1 1 0 1; hop c 0 1 1 1 1
  fetch c 0 3 1; fetch c 1 3 1
  fetched c 0 2 0; fetched c 1 2 0
  hop c 1 2 0 0 0; hop c 1 2 0 1 0; hop c 1 2 0 0 1; hop c 1 2 0 1 1
  fetched c 0 3 1; fetched c 1 3 1
  last c 0 0; last c 1 0; last c 0 1; last c 1 1
  pass c 0 1 0 0; pass c 0 1 1 0; pass c 0 1 0 1; pass c 0 1 1 1
  pass c 1 2 0 0; pass c 1 2 1 0; pass c 1 2 0 1; pass c 1 2 1 1
  agWait c 3 0 2 0; agWait c 3 1 2 0; agWait c 3 0 2 1; agWait c 3 1 2 1
  drain c 0 0 0; drain c 0 1 0; drain c 0 0 1; drain c 0 1 1
  drain c 1 0 0; drain c 1 1 0; drain c 1 0 1; drain c 1 1 1
  drain c 2 0 0; drain c 2 1 0; drain c 2 0 1; drain c 2 1 1

/-- The body: read the device id and run. -/
def body : Prog (KEff F) PUnit := do
  let c : Dev nD ← Prog.lift .deviceId
  bodyOn c

end Cert.KernelIdeal.Ring

end
-- ==== Proof.Ring.lean ====
/-
# The ring: cells, contents and the schedule of the copies

Every semaphore of the kernel is a cell with a key: the collective's entry semaphore, the four fetch semaphores, and the
48 copy semaphores.  `Rd` says, cell by cell, how many units each round of it brings and what they hand to the core that
waits for them; `owing` says what a core still owes the others after a number of its operations.
-/
module

public import proofs.«01_k».proof.Proof.Prog
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueIdxCore

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 2)
abbrev UU : Type := UR sig nD τ × UB

/-- The resources of the proof. -/
abbrev MM (F : FTy → Type) : Type _ := MT nD τ sig Unit (Elt F) ℕ UU ℕ

abbrev EP : Emb (UR sig nD τ) (MM F) := embL
abbrev ER : Emb UB (MM F) := embR

variable (m : (ℓ : Loc nD τ sig) → Buf (Elt F) ℓ)

/-! ## The neighbours -/

/-- The other direction. -/
def other : Fin 2 → Fin 2
  | 0 => 1
  | 1 => 0
/-- The device from which direction `d` arrives. -/
abbrev prv (c : Dev nD) (d : Fin 2) : Dev nD := toDev c (other d)

theorem to_prv : ∀ (c : Dev nD) (d : Fin 2), toDev (prv c d) d = c := by decide +kernel
theorem prv_to : ∀ (c : Dev nD) (d : Fin 2), prv (toDev c d) d = c := by decide +kernel

/-- Direction `d` around the ring. -/
def ring (d : Fin 2) : Dev nD ≃ Dev nD := ⟨fun c => toDev c d, fun c => prv c d, fun c => prv_to c d, fun c => to_prv c d⟩

/-! ## The cells -/

/-- The fetch cells: direction and slot. -/
abbrev FK : Type := Fin 2 × Fin 2
/-- The copy cells: direction and half, then hop and array. -/
abbrev XK : Type := (Fin 2 × Fin 2) × (Fin 3 × Fin 4)
/-- The kernel's own cells. -/
abbrev OK : Type := FK ⊕ XK
/-- All cells of a core. -/
abbrev CK : Type := Unit ⊕ OK

def osem : OK → SemLoc sig
  | .inl (d, sl) => .dma (fS d sl)
  | .inr ((d, s), (h, f)) => .dma (cS f d h s)
def csem : CK → SemLoc sig
  | .inl _ => .reg barS
  | .inr k => osem k

/-- The key of a semaphore. -/
def keyOf : SemLoc sig → Option CK
  | .reg _ => some (.inl ())
  | .dma q =>
    if q.val = 0 then none
    else if q.val < 5 then some (.inr (.inl (Fin.ofNat 2 ((q.val - 1) / 2), Fin.ofNat 2 (q.val - 1))))
    else some (.inr (.inr ((Fin.ofNat 2 ((q.val - 5) / 6), Fin.ofNat 2 (q.val - 5)), (Fin.ofNat 3 ((q.val - 5) / 2), Fin.ofNat 4 ((q.val - 5) / 12)))))

theorem keyOf_csem : ∀ k : CK, keyOf (csem k) = some k := by decide +kernel

theorem csem_injective : Function.Injective csem := fun a b h => by
  have := congrArg keyOf h; rw [keyOf_csem, keyOf_csem] at this; exact Option.some.inj this

/-- A core's cell with a key. -/
abbrev kcell (ck : Dev nD × CK) : GSem nD τ sig := ((ck.1 : Thread nD τ), csem ck.2)

theorem kcell_injective : Function.Injective kcell := by
  rintro ⟨c, k⟩ ⟨c', k'⟩ h
  have h1 : c = c' := by have := congrArg (fun g : GSem nD τ sig => g.1.1) h; exact this
  have h2 : k = k' := csem_injective (congrArg Prod.snd h)
  rw [h1, h2]

abbrev barC (c : Dev nD) : GSem nD τ sig := ((c : Thread nD τ), .reg barS)
abbrev fC (c : Dev nD) (d sl : Fin 2) : GSem nD τ sig := ((c : Thread nD τ), .dma (fS d sl))
abbrev xC (c : Dev nD) (f : Fin 4) (d : Fin 2) (h : Fin 3) (s : Fin 2) : GSem nD τ sig := ((c : Thread nD τ), .dma (cS f d h s))

abbrev fkey (d sl : Fin 2) : CK := .inr (.inl (d, sl))
abbrev xkey (f : Fin 4) (d : Fin 2) (h : Fin 3) (s : Fin 2) : CK := .inr (.inr ((d, s), (h, f)))

theorem keyOf_bar : keyOf (.reg barS) = some (.inl ()) := keyOf_csem (.inl ())
theorem keyOf_f (d sl : Fin 2) : keyOf (.dma (fS d sl)) = some (fkey d sl) := keyOf_csem (fkey d sl)
theorem keyOf_x (f : Fin 4) (d : Fin 2) (h : Fin 3) (s : Fin 2) : keyOf (.dma (cS f d h s)) = some (xkey f d h s) := keyOf_csem (xkey f d h s)

/-! ## The amounts -/

/-- What a fetch of a chunk credits. -/
def NF : ℕ := (stP 0 0).view.dmaCredit
/-- What a copy of half a chunk credits. -/
def NX : ℕ := (sdP 0 0).view.dmaCredit

theorem NF_pos : 0 < NF := View.dmaCredit_pos _ (by decide)
theorem NX_pos : 0 < NX := View.dmaCredit_pos _ (by decide)

theorem stP_credit (d sl : Fin 2) : (stP d sl).view.dmaCredit = NF := rfl
theorem rvP_credit : ∀ (d : Fin 2) (h : Fin 3) (s : Fin 2), (rvP d h s).view.dmaCredit = NX
  | 0, _, _ => rfl
  | 1, _, _ => rfl
theorem rsSrc_credit : ∀ (d : Fin 2) (h : Fin 3) (s : Fin 2), (rsSrc d h s).view.dmaCredit = NX
  | 0, 0, _ => rfl
  | 0, 1, _ => rfl
  | 0, 2, _ => rfl
  | 1, 0, _ => rfl
  | 1, 1, _ => rfl
  | 1, 2, _ => rfl
theorem oS_credit (c : Dev nD) (d : Fin 2) (h : Fin 3) (s : Fin 2) : (oS c d h s).view.dmaCredit = NX := rfl

/-! ## The contents -/

/-- The `i`-th chunk direction `d` fetches on device `c`. -/
def XC (c : Dev nD) (d : Fin 2) (i : Fin 4) : S1024x1024.Idx → Elt F .f32 :=
  (xS c d i).view.read (Elt F) (m ((c : Thread nD τ).loc main_arg0))

/-- Half `s` of a chunk. -/
def half {α : Type} (s : Fin 2) (Y : S1024x1024.Idx → α) : S512x1024.Idx → α :=
  fun j => Y (ValueIdx.ix2 (n0 := 1024) (n1 := 1024) ⟨512 * s.val + (j 0).val, by
    have h1 : (j 0).val < 512 := (j 0).isLt
    have h2 := s.isLt
    omega⟩ (j 1))

/-- A chunk's half, narrowed. -/
def nar (s : Fin 2) (Y : S1024x1024.Idx → Elt F .f32) : S512x1024.Idx → Elt F .bf16 :=
  truncf (F := F) (s := S512x1024) .bf16 (half s Y) bitsLt_bf16_f32

/-- What device `c` sends in hop `h` of direction `d`, half `s`; at `h = 3`, its reduced half chunk. -/
def Sv : ℕ → Dev nD → Fin 2 → Fin 2 → S512x1024.Idx → Elt F .bf16
  | 0, c, d, s => nar s (XC m c d 0)
  | h + 1, c, d, s => addf (F := F) (s := S512x1024) (φ := .bf16) (Sv h (prv c d) d s) (nar s (XC m c d (Fin.ofNat 4 (h + 1))))

/-- What device `c` sends in hop `h` of the all-gather; at `h = 3`, what arrives last. -/
def Gv : ℕ → Dev nD → Fin 2 → Fin 2 → S512x1024.Idx → Elt F .bf16
  | 0, c, d, s => Sv m 3 c d s
  | h + 1, c, d, s => Gv h (prv c d) d s

/-! ## The pieces -/

/-- A piece of a core's memory at its contents. -/
abbrev pc (c : Dev nD) {sp : Space} {sh : Shape} {e : EltTy} (M : Memref sig .tc sp sh e) (X : sh.Idx → Elt F e) : sProp (MM F) :=
  owns (c : Thread nD τ) M fullShare X
/-- A piece of a core's memory at any contents. -/
abbrev pe (c : Dev nD) {sp : Space} {sh : Shape} {e : EltTy} (M : Memref sig .tc sp sh e) : sProp (MM F) :=
  iprop(∃ X, pc (F := F) c M X)

/-! ## The schedule -/

/-- Where direction `d` writes on `toDev c d` for half `s`: the three landing places of either phase. -/
def zone (c : Dev nD) (d s : Fin 2) : sProp (MM F) :=
  iprop((pe (toDev c d) (rvP d 0 s) ∗ pe (toDev c d) (rvP d 1 s) ∗ pe (toDev c d) (rvP d 2 s))
    ∗ pe (toDev c d) (oS c d 0 s) ∗ pe (toDev c d) (oS c d 1 s) ∗ pe (toDev c d) (oS c d 2 s))

/-- What a neighbour's signal hands over: its landing places of direction `d`. -/
def barPay (c : Dev nD) (d : Fin 2) : sProp (MM F) := iprop(zone c d 0 ∗ zone c d 1)

/-- The chunk fetched in round `r` of slot `sl`. -/
abbrev ch (sl : Fin 2) (r : ℕ) : Fin 4 := Fin.ofNat 4 (2 * r + sl.val)

def fetchPay (c : Dev nD) (d sl : Fin 2) (r : ℕ) : sProp (MM F) :=
  iprop(pc c (xS c d (ch sl r)) (XC m c d (ch sl r)) ∗ pc c (stP d sl) (XC m c d (ch sl r)))

def xferPay (c : Dev nD) : Fin 4 → Fin 2 → Fin 3 → Fin 2 → sProp (MM F)
  | 0, d, h, s => pc c (rsSrc d h s) (Sv m h.val c d s)
  | 1, d, h, s => pc c (rvP d h s) (Sv m h.val (prv c d) d s)
  | 2, d, h, s => pc c (oS c d h s) (Gv m h.val c d s)
  | 3, d, h, s => pc c (oS (prv c d) d h s) (Gv m h.val (prv c d) d s)

def dutiesK : CK → ℕ → Finset (Fin 2)
  | .inl _, r => if r < 1 then Finset.univ else ∅
  | .inr (.inl _), r => if r < 2 then {0} else ∅
  | .inr (.inr _), r => if r < 1 then {0} else ∅
def amountK : CK → ℕ
  | .inl _ => 1
  | .inr (.inl _) => NF
  | .inr (.inr _) => NX
theorem amountK_pos : ∀ k, 0 < amountK k
  | .inl _ => Nat.one_pos
  | .inr (.inl _) => NF_pos
  | .inr (.inr _) => NX_pos
def payK (c : Dev nD) : CK → ℕ → Fin 2 → sProp (MM F)
  | .inl _, _, d => barPay c d
  | .inr (.inl (d, sl)), r, _ => fetchPay m c d sl r
  | .inr (.inr ((d, s), (h, f))), _, _ => xferPay m c f d h s

instance payK_storable (c : Dev nD) : ∀ (k : CK) (r : ℕ) (d : Fin 2), BI.Storable (upEmb : UEmb _ (MM F)) (payK m c k r d)
  | .inl _, _, _ => by unfold payK barPay zone; infer_instance
  | .inr (.inl (_, _)), _, _ => by unfold payK fetchPay; infer_instance
  | .inr (.inr ((d, s), (h, f))), _, _ => by
    match f with
    | 0 => unfold payK xferPay; infer_instance
    | 1 => unfold payK xferPay; infer_instance
    | 2 => unfold payK xferPay; infer_instance
    | 3 => unfold payK xferPay; infer_instance

/-- The schedule: the entry semaphore's round of two units, a fetch semaphore's two rounds of a chunk, a copy semaphore's
    round of half a chunk. -/
def Rd : Rounds.Schedule (GSem nD τ sig) (Fin 2) (MM F) where
  duties g r := (keyOf g.2).elim ∅ (dutiesK · r)
  unitless _ := False
  amount g _ _ := (keyOf g.2).elim 1 amountK
  payload g r d := (keyOf g.2).elim iprop(emp) (payK m g.1.1 · r d)
  amount_pos g _ _ _ := by
    cases h : keyOf g.2 with
    | none => exact Nat.one_pos
    | some k => exact amountK_pos k

instance Rd_storable (g : GSem nD τ sig) (r : ℕ) (d : Fin 2) : BI.Storable (upEmb : UEmb _ (MM F)) ((Rd m).payload g r d) := by
  show BI.Storable upEmb ((keyOf g.2).elim iprop(emp) (payK m g.1.1 · r d))
  cases h : keyOf g.2 with
  | none => exact (inferInstance : BI.Storable upEmb (iprop(emp) : sProp (MM F)))
  | some k => exact payK_storable m g.1.1 k r d

section Sched
variable (c : Dev nD) (k : CK)

theorem duties_k (r : ℕ) : (Rd (F := F) m).duties (kcell (c, k)) r = dutiesK k r := by
  dsimp only [Rd]; rw [keyOf_csem]; rfl
theorem amount_k (r : ℕ) (d : Fin 2) : (Rd (F := F) m).amount (kcell (c, k)) r d = amountK k := by
  dsimp only [Rd]; rw [keyOf_csem]; rfl
theorem payload_k (r : ℕ) (d : Fin 2) : (Rd (F := F) m).payload (kcell (c, k)) r d = payK m c k r d := by
  dsimp only [Rd]; rw [keyOf_csem]; rfl

theorem duties_later (r : ℕ) (hr : 2 ≤ r) : (Rd (F := F) m).duties (kcell (c, k)) r = ∅ := by
  rw [duties_k]
  match k with
  | .inl _ => exact if_neg (by omega)
  | .inr (.inl _) => exact if_neg (by omega)
  | .inr (.inr _) => exact if_neg (by omega)
theorem duties_x_later (f : Fin 4) (d : Fin 2) (h : Fin 3) (s : Fin 2) (r : ℕ) (hr : 1 ≤ r) : (Rd (F := F) m).duties (xC c f d h s) r = ∅ :=
  (duties_k m c (xkey f d h s) r).trans (if_neg (by omega))
theorem duties_bar_later (r : ℕ) (hr : 1 ≤ r) : (Rd (F := F) m).duties (barC c) r = ∅ :=
  (duties_k m c (.inl ()) r).trans (if_neg (by omega))

theorem expect_x (f : Fin 4) (d : Fin 2) (h : Fin 3) (s : Fin 2) : (Rd (F := F) m).expect (xC c f d h s) 0 = NX := by
  have e1 := duties_k (F := F) m c (xkey f d h s) 0
  have e2 := amount_k (F := F) m c (xkey f d h s) 0 0
  unfold Schedule.expect Schedule.amountOf
  rw [show (Rd (F := F) m).duties (xC c f d h s) 0 = {0} from e1, Finset.sum_singleton]
  exact e2
theorem expect_f (d sl : Fin 2) (r : ℕ) (hr : r < 2) : (Rd (F := F) m).expect (fC c d sl) r = NF := by
  have e1 := duties_k (F := F) m c (fkey d sl) r
  have e2 := amount_k (F := F) m c (fkey d sl) r 0
  unfold Schedule.expect Schedule.amountOf
  rw [show (Rd (F := F) m).duties (fC c d sl) r = {0} from e1.trans (if_pos hr), Finset.sum_singleton]
  exact e2
theorem expect_bar : (Rd (F := F) m).expect (barC c) 0 = 2 := by
  have e1 := duties_k (F := F) m c (.inl ()) 0
  unfold Schedule.expect Schedule.amountOf
  rw [show (Rd (F := F) m).duties (barC c) 0 = Finset.univ from e1,
    Finset.sum_congr rfl fun d _ => show (Rd (F := F) m).amount (barC c) 0 d = 1 from amount_k (F := F) m c (.inl ()) 0 d]
  rfl

/-- A copy cell's round hands over its one payload. -/
theorem rest_x (f : Fin 4) (d : Fin 2) (h : Fin 3) (s : Fin 2) :
    bigSep ((Rd (F := F) m).duties (xC c f d h s) 0 \ ∅) (fun e => (Rd (F := F) m).payload (xC c f d h s) 0 e) = xferPay m c f d h s := by
  have e1 := duties_k (F := F) m c (xkey f d h s) 0
  rw [Finset.sdiff_empty, show (Rd (F := F) m).duties (xC c f d h s) 0 = {0} from e1, bigSep_singleton]
  exact payload_k (F := F) m c (xkey f d h s) 0 0
/-- A fetch cell's round hands over the chunk it read and the slot it filled. -/
theorem rest_f (d sl : Fin 2) (r : ℕ) (hr : r < 2) :
    bigSep ((Rd (F := F) m).duties (fC c d sl) r \ ∅) (fun e => (Rd (F := F) m).payload (fC c d sl) r e) = fetchPay m c d sl r := by
  have e1 := duties_k (F := F) m c (fkey d sl) r
  rw [Finset.sdiff_empty, show (Rd (F := F) m).duties (fC c d sl) r = {0} from e1.trans (if_pos hr), bigSep_singleton]
  exact payload_k (F := F) m c (fkey d sl) r 0
/-- The entry semaphore's round hands over both neighbours' landing places. -/
theorem rest_bar :
    bigSep ((Rd (F := F) m).duties (barC c) 0 \ ∅) (fun e => (Rd (F := F) m).payload (barC c) 0 e) = iprop(barPay c 0 ∗ barPay c 1) := by
  have e1 := duties_k (F := F) m c (.inl ()) 0
  have e2 (e : Fin 2) : (Rd (F := F) m).payload (barC c) 0 e = barPay c e := payload_k (F := F) m c (.inl ()) 0 e
  rw [Finset.sdiff_empty, show (Rd (F := F) m).duties (barC c) 0 = Finset.univ from e1,
    bigSep_univ_eq_bigSepL [0, 1] (by decide) (by decide), bigSepL_cons_cons, bigSepL_singleton, e2, e2]
  rfl

end Sched

/-! ## What a core owes -/

/-- What a core owes at launch, one entry per operation that pays: a signal to the neighbour in a direction, or a send (phase,
    direction, hop, half). -/
abbrev Ob : Type := Fin 2 ⊕ (Fin 2 × Fin 2 × Fin 3 × Fin 2)

/-- The array of semaphores on which a phase's sends arrive. -/
def arr : Fin 2 → Fin 4
  | 0 => 1
  | 1 => 3
/-- The array on which they complete at the sender. -/
def snt : Fin 2 → Fin 4
  | 0 => 0
  | 1 => 2

def obCell (c : Dev nD) : Ob → Dev nD × CK
  | .inl d => (toDev c d, .inl ())
  | .inr (p, d, h, s) => (toDev c d, xkey (arr p) d h s)

/-- The paying operations in program order. -/
def obls : List Ob :=
  [.inl 1, .inl 0,
   .inr (0, 0, 0, 0), .inr (0, 0, 0, 1), .inr (0, 1, 0, 0), .inr (0, 1, 0, 1),
   .inr (0, 0, 1, 0), .inr (0, 1, 1, 0), .inr (0, 0, 1, 1), .inr (0, 1, 1, 1),
   .inr (0, 0, 2, 0), .inr (0, 1, 2, 0), .inr (0, 0, 2, 1), .inr (0, 1, 2, 1),
   .inr (1, 0, 0, 0), .inr (1, 1, 0, 0), .inr (1, 0, 0, 1), .inr (1, 1, 0, 1),
   .inr (1, 0, 1, 0), .inr (1, 1, 1, 0), .inr (1, 0, 1, 1), .inr (1, 1, 1, 1),
   .inr (1, 0, 2, 0), .inr (1, 1, 2, 0), .inr (1, 0, 2, 1), .inr (1, 1, 2, 1)]

def obTally (c : Dev nD) (o : Ob) : CellTallies nD τ sig Unit := tallyAt (kcell (obCell c o)) () (amountK (obCell c o).2)

/-- What a core owes for a list of operations still to come. -/
def oweL (c : Dev nD) : List Ob → CellTallies nD τ sig Unit
  | [] => 0
  | o :: os => oweL c os + obTally c o

/-- What a core owes after `n` of its paying operations. -/
def owing (c : Dev nD) (n : ℕ) : CellTallies nD τ sig Unit := oweL c (obls.drop n)

theorem owing_step (c : Dev nD) (n : ℕ) (o : Ob) (h : obls[n]? = some o) : owing c n = owing c (n + 1) + obTally c o := by
  obtain ⟨hn, e⟩ := List.getElem?_eq_some_iff.mp h
  unfold owing
  rw [List.drop_eq_getElem_cons hn, e]
  rfl
theorem owing_all (c : Dev nD) : owing c 26 = 0 := rfl

theorem oweL_pos {c : Dev nD} {g : GSem nD τ sig} {u : Unit} : ∀ {os : List Ob}, 0 < oweL c os g u → ∃ o ∈ os, g = kcell (obCell c o)
  | [], h => absurd h (Nat.lt_irrefl 0)
  | o :: os, h => by
    by_cases e : g = kcell (obCell c o)
    · exact ⟨o, List.mem_cons_self, e⟩
    · have h' : 0 < oweL c os g u := by
        have h2 : 0 < (oweL c os + obTally c o) g u := h
        rw [Pi.add_apply, Finsupp.add_apply] at h2
        unfold obTally at h2
        rw [tallyAt_apply, if_neg (fun x => e x.1)] at h2
        exact h2
      obtain ⟨o', ho, e'⟩ := oweL_pos h'
      exact ⟨o', List.mem_cons_of_mem _ ho, e'⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The levels: what a core waits for is below all it still owes. -/
def levK : CK → ℕ
  | .inl _ => 1
  | .inr (.inl _) => 0
  | .inr (.inr (_, (h, f))) => if f = 1 then 2 + h.val else if f = 3 then 5 + h.val else 0
def lv (g : GSem nD τ sig) (_ : Unit) : ℕ := (keyOf g.2).elim 0 levK
theorem lv_k (ck : Dev nD × CK) (u : Unit) : lv (kcell ck) u = levK ck.2 := by unfold lv; rw [keyOf_csem]; rfl

/-- The level of what an operation pays. -/
def obLev : Ob → ℕ
  | .inl _ => 1
  | .inr (p, _, h, _) => levK (xkey (arr p) 0 h 0)
theorem obLev_eq (c : Dev nD) : ∀ o : Ob, levK (obCell c o).2 = obLev o
  | .inl _ => rfl
  | .inr (_, _, _, _) => rfl

/-- A core may wait on a semaphore whose level is below that of everything it still owes. -/
theorem mayWait (c : Dev nD) (sm : SemLoc sig) (n : ℕ) (h : ∀ o ∈ obls.drop n, lv ((c : Thread nD τ), sm) () < obLev o) :
    (levAts L lv : sProp (MM F)) ⊢ MayWait (c : Thread nD τ) sm () (owing c n) :=
  MayOwe.of_cut (L := L) (lev := lv) (lv ((c : Thread nD τ), sm) ())
    (fun p hp => by rw [Finset.mem_singleton.mp hp, L_tc]; exact Finset.mem_singleton_self _)
    (fun g u hg => by obtain ⟨o, _, rfl⟩ := oweL_pos hg; rw [L_tc]; exact Finset.mem_singleton_self _)
    (fun p hp => by rw [Finset.mem_singleton.mp hp])
    (fun g u hg => by
      obtain ⟨o, ho, rfl⟩ := oweL_pos hg
      rw [lv_k, obLev_eq]; exact h o ho)

/-- What a core owes after `n` of its paying operations, whatever it has waited for. -/
def owesN (c : Dev nD) (n : ℕ) : sProp (MM F) := iprop(∃ W, owes (c : Thread nD τ) (owing c n) W)

/-- The facts every core may use: the cells' invariants, that every cell has reached round 0, and the levels. -/
def records (K : Dev nD × CK → ℕ) : sProp (MM F) :=
  iprop((bigSep Finset.univ fun ck : Dev nD × CK => iprop(cellInv ER (Rd m) (K ck) (kcell ck) ∗ reached ER (kcell ck) 0)) ∗ levAts L lv)

instance records_persistent (K : Dev nD × CK → ℕ) : BI.Persistent (records (F := F) m K) := by unfold records; infer_instance

theorem rec_at (K : Dev nD × CK → ℕ) (ck : Dev nD × CK) :
    (bigSep Finset.univ fun ck : Dev nD × CK => (iprop(cellInv ER (Rd m) (K ck) (kcell ck) ∗ reached ER (kcell ck) 0) : sProp (MM F)))
      ⊢ iprop(cellInv ER (Rd m) (K ck) (kcell ck) ∗ reached ER (kcell ck) 0) :=
  bigSep_elim (Finset.mem_univ ck)
theorem inv_at (K : Dev nD × CK → ℕ) (c : Dev nD) (k : CK) : records (F := F) m K ⊢ cellInv ER (Rd m) (K (c, k)) (kcell (c, k)) :=
  sep_elim_left.trans ((rec_at m K (c, k)).trans sep_elim_left)
theorem reached_at (K : Dev nD × CK → ℕ) (c : Dev nD) (k : CK) : records (F := F) m K ⊢ reached ER (kcell (c, k)) 0 :=
  sep_elim_left.trans ((rec_at m K (c, k)).trans sep_elim_right)
theorem levs_at (K : Dev nD × CK → ℕ) : records (F := F) m K ⊢ levAts L lv := by
  unfold records
  iintro ⟨-, H⟩
  iexact H

end Cert.KernelIdeal.Ring

end
-- ==== Proof.Steps.lean ====
/-
# What each step does

One statement per kind of step, for every direction, hop and half: what a core must hold before the step and what it holds
after it.
-/
module

public import proofs.«01_k».proof.Proof.Ring

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- The weakest precondition of a program on core `c`. -/
abbrev WP (c : Dev nD) {α : Type} (p : Prog (KEff F) α) (Q : α → sProp (MM F)) : sProp (MM F) :=
  wp frame (wpE (defs₀ (F := F)) 𝒱₀ (c : Thread nD τ) none) Set.univ p Q

/-- Running `p` on core `c` turns `P` into `R`, whatever comes after. -/
def Step (c : Dev nD) (P : sProp (MM F)) (p : Prog (KEff F) PUnit) (R : sProp (MM F)) : Prop :=
  ∀ (k : PUnit → Prog (KEff F) PUnit) (Q : PUnit → sProp (MM F)), P ⊢ iprop((R -∗ WP c (k ⟨⟩) Q) -∗ WP c (p >>= k) Q)

theorem Step.seq {c : Dev nD} {P R S : sProp (MM F)} {p q : Prog (KEff F) PUnit} (h₁ : Step c P p R) (h₂ : Step c R q S) :
    Step c P (p >>= fun _ => q) S := fun k Q => by
  rw [bind_assoc]
  iintro HP Hk
  iapply (h₁ (fun _ => q >>= k) Q) $$ HP
  iintro HR
  iapply (h₂ k Q) $$ HR
  iexact Hk

theorem Step.frame {c : Dev nD} {P R : sProp (MM F)} {p : Prog (KEff F) PUnit} (X : sProp (MM F)) (h : Step c P p R) :
    Step c iprop(P ∗ X) p iprop(R ∗ X) := fun k Q => by
  iintro ⟨HP, HX⟩ Hk
  iapply (h k Q) $$ HP
  iintro HR
  iapply Hk
  isplitl [HR] <;> iassumption

theorem Step.conseq {c : Dev nD} {P P' R R' : sProp (MM F)} {p : Prog (KEff F) PUnit} (h : Step c P p R) (hP : P' ⊢ P) (hR : R ⊢ R') :
    Step c P' p R' := fun k Q => by
  iintro HP Hk
  ihave HP := hP $$ HP
  iapply (h k Q) $$ HP
  iintro HR
  iapply Hk
  iapply hR
  iexact HR

variable (m : (ℓ : Loc nD τ sig) → Buf (Elt F) ℓ) (K : Dev nD × CK → ℕ)

/-! ## Copies -/

/-- A piece written with what another piece holds holds that. -/
theorem copied (c : Dev nD) {sp : Space} {sh : Shape} {e : EltTy} (M : Memref sig .tc sp sh e) (fd : M.view.ty.Contents (Elt F)) (X : sh.Idx → Elt F e) :
    ((M.view.loc (c : Thread nD τ) ↦[M.view.set]{fullShare} (M.view.write (Elt F) fd X Finset.univ)) : sProp (MM F)) ⊢ pc c M X := by
  have h := owns_intro (Ix := Unit) (Name := ℕ) (U := UU) (Lvl := ℕ) (c : Thread nD τ) M fullShare (M.view.write (Elt F) fd X Finset.univ)
  rwa [View.read_write_univ] at h

theorem duty_f (c : Dev nD) (d sl : Fin 2) (r : ℕ) (hr : r < 2) : (0 : Fin 2) ∈ (Rd (F := F) m).duties (fC c d sl) r := by
  rw [show (Rd (F := F) m).duties (fC c d sl) r = {0} from (duties_k m c (fkey d sl) r).trans (if_pos hr)]; exact Finset.mem_singleton_self _
theorem duty_x (c : Dev nD) (f : Fin 4) (d : Fin 2) (h : Fin 3) (s : Fin 2) : (0 : Fin 2) ∈ (Rd (F := F) m).duties (xC c f d h s) 0 := by
  rw [show (Rd (F := F) m).duties (xC c f d h s) 0 = {0} from (duties_k m c (xkey f d h s) 0)]; exact Finset.mem_singleton_self _

/-- Starting a fetch. -/
theorem fetch_step (c : Dev nD) (d : Fin 2) (i : Fin 4) (sl : Fin 2) (r : ℕ) (hr : r < 2) (hi : ch sl r = i) :
    Step c iprop(records m K ∗ reached ER (fC c d sl) r ∗ dutyTok ER (fC c d sl) r 0 ∗ pc c (xS c d i) (XC m c d i) ∗ pe c (stP d sl))
      (fetch c d i sl) (cred (tallyAt (fC c d sl) () NF)) := fun k Q => by
  subst hi
  show _ ⊢ iprop((_ -∗ _) -∗ WP c (.op (.enqueueDma (xS c d (ch sl r)) (.here (stP d sl)) (.dma (fS d sl)) _ _ _) k) Q)
  unfold pe pc owns
  iintro ⟨#Hrec, #Hr, Ht, ⟨%fs, %hfs, Hx⟩, ⟨%Y, %fd, -, Hst⟩⟩ Hk
  iapply (Rounds.wp_copy_pointsTo 𝒱₀ ER (Rd m) (c : Thread nD τ) none (κ := K (c, fkey d sl)) (r := r) (d := 0) (fd := fd) (fs := fs) (q := fullShare)
    (duty_f m c d sl r hr) () NF (stP_credit d sl) (amount_k m c (fkey d sl) r 0) ?hpay) $$ [Ht Hx Hst]
  case hpay =>
    refine BIBase.Entails.trans ?_ (Entails.of_eq (payload_k m c (fkey d sl) r 0).symm)
    show _ ⊢ fetchPay m c d sl r
    unfold fetchPay
    rw [hfs]
    iintro ⟨Hd, Hs⟩
    isplitl [Hs]
    · have hs := owns_intro (Ix := Unit) (Name := ℕ) (U := UU) (Lvl := ℕ) (c : Thread nD τ) (xS c d (ch sl r)) fullShare fs
      rw [hfs] at hs
      iapply hs; iexact Hs
    · iapply (copied c (stP d sl) fd (XC m c d (ch sl r))); iexact Hd
  · isplitr; · iapply (inv_at m K c (fkey d sl)); iexact Hrec
    isplitl [Hx]; · iexact Hx
    isplitl [Hst]; · iexact Hst
    isplitl [Ht]; · iexact Ht
    iexact Hr
  iexact Hk

/-- Starting a send, of either phase: the source and the destination on the neighbour, the two duties, and the amount owed. -/
theorem send_gen (c n : Dev nD) (p d : Fin 2) (h : Fin 3) (s : Fin 2) (hn : n = toDev c d)
    (src : Memref sig .tc .vmem S512x1024 .bf16) (dst : Memref sig .tc .vmem S512x1024 .bf16)
    {hsc : (dst : Memref sig (Dev.tc n : Thread nD τ).2.kind .vmem S512x1024 .bf16).view.ref.isScScratch = false}
    {hsrc : src.view.WordExact} {hdst : dst.view.WordExact}
    {hsem : DmaTarget.Typed .vmem (.dma (cS (arr p) d h s)) (.remote (Dev.tc n : Thread nD τ) dst (.dma (cS (snt p) d h s)) hsc)}
    (X : S512x1024.Idx → Elt F .bf16) (hN : dst.view.dmaCredit = NX)
    (h₁ : xferPay m c (snt p) d h s = pc c src X) (h₂ : xferPay m (toDev c d) (arr p) d h s = pc (toDev c d) dst X)
    (j : ℕ) (hj : obls[j]? = some (.inr (p, d, h, s))) :
    Step c iprop(records m K ∗ owesN c j ∗ dutyTok ER (xC c (snt p) d h s) 0 0 ∗ dutyTok ER (xC (toDev c d) (arr p) d h s) 0 0
        ∗ pc c src X ∗ pe (toDev c d) dst)
      (Prog.lift (.enqueueDma src (.remote (Dev.tc n : Thread nD τ) dst (.dma (cS (snt p) d h s)) hsc) (.dma (cS (arr p) d h s)) hsrc hdst hsem))
      iprop(cred (tallyAt (xC c (snt p) d h s) () NX) ∗ owesN c (j + 1)) := fun k Q => by
  subst hn
  show _ ⊢ iprop((_ -∗ _) -∗ WP c (.op (.enqueueDma src (.remote (Dev.tc (toDev c d) : Thread nD τ) dst (.dma (cS (snt p) d h s)) hsc) (.dma (cS (arr p) d h s)) hsrc hdst hsem) k) Q)
  unfold owesN
  have hk₁ := amount_k (F := F) m c (xkey (snt p) d h s) 0 0
  have hk₂ := amount_k (F := F) m (toDev c d) (xkey (arr p) d h s) 0 0
  have hp₁ := (payload_k (F := F) m c (xkey (snt p) d h s) 0 0).trans h₁
  have hp₂ := (payload_k (F := F) m (toDev c d) (xkey (arr p) d h s) 0 0).trans h₂
  iintro ⟨#Hrec, ⟨%W, HO⟩, Ht1, Ht2, Hs, ⟨%Y, Hd⟩⟩ Hk
  ihave Hs := (show pc c src X ⊢ iprop(∃ g, ⌜src.view.read (Elt F) g = X⌝ ∗ src.view.loc (c : Thread nD τ) ↦[src.view.set]{fullShare} g) from .rfl) $$ Hs
  ihave Hd := (show pc (toDev c d) dst Y ⊢ iprop(∃ g, ⌜dst.view.read (Elt F) g = Y⌝ ∗ dst.view.loc (toDev c d : Thread nD τ) ↦[dst.view.set]{fullShare} g) from .rfl) $$ Hd
  icases Hs with ⟨%fs, %hfs, Hs⟩
  icases Hd with ⟨%fd, -, Hd⟩
  iapply (Rounds.wp_send_pointsTo 𝒱₀ ER (Rd m) (c : Thread nD τ) none (κ₁ := K (c, xkey (snt p) d h s)) (κ₂ := K (toDev c d, xkey (arr p) d h s))
    (r₁ := 0) (r₂ := 0) (d₁ := 0) (d₂ := 0) (fs := fs) (fd := fd) (q := fullShare)
    (duty_x m c (snt p) d h s) (duty_x m (toDev c d) (arr p) d h s) () () NX hN hk₁ hk₂ (owing c (j + 1)) (owing_step c j _ hj) (W := W)
    ?hp1 ?hp2) $$ [HO Ht1 Ht2 Hs Hd]
  case hp1 =>
    refine BIBase.Entails.trans ?_ (Entails.of_eq hp₁.symm)
    have := owns_intro (Ix := Unit) (Name := ℕ) (U := UU) (Lvl := ℕ) (c : Thread nD τ) src fullShare fs
    rwa [hfs] at this
  case hp2 =>
    refine BIBase.Entails.trans ?_ (Entails.of_eq hp₂.symm)
    rw [hfs]; exact copied (toDev c d) dst fd X
  · isplitr; · iapply (inv_at m K c (xkey (snt p) d h s)); iexact Hrec
    isplitr; · iapply (inv_at m K (toDev c d) (xkey (arr p) d h s)); iexact Hrec
    isplitl [Hs]; · iexact Hs
    isplitl [Hd]; · iexact Hd
    isplitl [HO]; · iexact HO
    isplitl [Ht1]; · iexact Ht1
    isplitr; · iapply (reached_at m K c (xkey (snt p) d h s)); iexact Hrec
    isplitl [Ht2]; · iexact Ht2
    iapply (reached_at m K (toDev c d) (xkey (arr p) d h s)); iexact Hrec
  iintro ⟨Hc, HO⟩
  iapply Hk
  isplitl [Hc]; · iexact Hc
  iexists W; iexact HO

/-- Starting a hop of the reduce-scatter. -/
theorem rsSend_step (c : Dev nD) (d : Fin 2) (h : Fin 3) (s : Fin 2) (j : ℕ) (hj : obls[j]? = some (.inr (0, d, h, s))) :
    Step c iprop(records m K ∗ owesN c j ∗ dutyTok ER (xC c 0 d h s) 0 0 ∗ dutyTok ER (xC (toDev c d) 1 d h s) 0 0
        ∗ pc c (rsSrc d h s) (Sv m h.val c d s) ∗ pe (toDev c d) (rvP d h s))
      (rsSend c d h s) iprop(cred (tallyAt (xC c 0 d h s) () NX) ∗ owesN c (j + 1)) :=
  send_gen m K c (toDev c d) 0 d h s rfl (rsSrc d h s) (rvP d h s) (Sv m h.val c d s) (rvP_credit d h s) rfl
    (by show pc (toDev c d) (rvP d h s) (Sv m h.val (prv (toDev c d) d) d s) = _; rw [prv_to]) j hj

/-- Starting a hop of the all-gather. -/
theorem agSend_step (c : Dev nD) (d : Fin 2) (h : Fin 3) (s : Fin 2) (j : ℕ) (hj : obls[j]? = some (.inr (1, d, h, s))) :
    Step c iprop(records m K ∗ owesN c j ∗ dutyTok ER (xC c 2 d h s) 0 0 ∗ dutyTok ER (xC (toDev c d) 3 d h s) 0 0
        ∗ pc c (oS c d h s) (Gv m h.val c d s) ∗ pe (toDev c d) (oS c d h s))
      (agSend c d h s) iprop(cred (tallyAt (xC c 2 d h s) () NX) ∗ owesN c (j + 1)) :=
  send_gen m K c (toDev c d) 1 d h s rfl (oS c d h s) (oS c d h s) (Gv m h.val c d s) (oS_credit c d h s) rfl
    (by show pc (toDev c d) (oS (prv (toDev c d) d) d h s) (Gv m h.val (prv (toDev c d) d) d s) = _; rw [prv_to]) j hj

/-! ## Waits -/

theorem obLev_pos : ∀ o ∈ obls, 0 < obLev o := by decide

/-- Waiting for a fetch: the slot holds the chunk. -/
theorem fetched_step (c : Dev nD) (d : Fin 2) (i : Fin 4) (sl : Fin 2) (r : ℕ) (hr : r < 2) (j : ℕ) :
    Step c iprop(records m K ∗ cred (tallyAt (fC c d sl) () NF) ∗ owesN c j ∗ atPos ER (fC c d sl) r ∅ 0)
      (fetched c d i sl) iprop(owesN c j ∗ atPos ER (fC c d sl) (r + 1) ∅ 0 ∗ reached ER (fC c d sl) (r + 1) ∗ fetchPay m c d sl r) := fun k Q => by
  show _ ⊢ iprop((_ -∗ _) -∗ WP c (.op (.waitDma2 (fS d sl) (xS c d i) (stP d sl) _ _) k) Q)
  unfold owesN
  iintro ⟨#Hrec, Hc, ⟨%W, HO⟩, Ha⟩ Hk
  iapply (Rounds.wp_wait_rest_token 𝒱₀ ER (Rd m) (c : Thread nD τ) none (κ := K (c, fkey d sl))
    (wpE_waitDma2_eq 𝒱₀ (c : Thread nD τ) none Set.univ) (Set.mem_univ _) () (O := owing c j) (W := W) (R := r) (m := 0) (T := ∅)
    (by rw [Nat.zero_add, expect_f m c d sl r hr]; rfl)) $$ [Hc HO Ha]
  · isplitr; · iapply (inv_at m K c (fkey d sl)); iexact Hrec
    isplitl [Hc]; · iexact Hc
    isplitl [HO]; · iexact HO
    isplitr
    · iapply ((levs_at m K).trans (mayWait c (.dma (fS d sl)) j fun o ho => by
        rw [show lv ((c : Thread nD τ), .dma (fS d sl)) () = 0 from lv_k (c, fkey d sl) ()]
        exact obLev_pos o (List.mem_of_mem_drop ho)))
      iexact Hrec
    iexact Ha
  iintro ⟨HO, Ha, Hr, Hp⟩
  ihave Hp := (Entails.of_eq (rest_f m c d sl r hr)) $$ Hp
  iapply Hk
  isplitl [HO]; · iexists _; iexact HO
  isplitl [Ha]; · iexact Ha
  isplitl [Hr]; · iexact Hr
  iexact Hp

/-- Waiting for a copy: its payload, and the semaphore back at zero. -/
theorem wait_gen (c : Dev nD) (f : Fin 4) (d : Fin 2) (h : Fin 3) (s : Fin 2) (src dst : Memref sig .tc .vmem S512x1024 .bf16)
    {hsrc : src.view.WordExact} {hdst : dst.view.WordExact} (hN : dst.view.dmaCredit = NX)
    (j : ℕ) (hj : ∀ o ∈ obls.drop j, levK (xkey f d h s) < obLev o) :
    Step c iprop(records m K ∗ cred (tallyAt (xC c f d h s) () NX) ∗ owesN c j ∗ atPos ER (xC c f d h s) 0 ∅ 0)
      (Prog.lift (.waitDma2 (cS f d h s) src dst hsrc hdst)) iprop(owesN c j ∗ semVal (xC c f d h s) 0 ∗ xferPay m c f d h s) := fun k Q => by
  show _ ⊢ iprop((_ -∗ _) -∗ WP c (.op (.waitDma2 (cS f d h s) src dst _ _) k) Q)
  unfold owesN
  iintro ⟨#Hrec, Hc, ⟨%W, HO⟩, Ha⟩ Hk
  iapply (Rounds.wp_wait_rest_token 𝒱₀ ER (Rd m) (c : Thread nD τ) none (κ := K (c, xkey f d h s)) (k' := NX)
    (fun Kt => (wpE_waitDma2_eq 𝒱₀ (c : Thread nD τ) none Set.univ Kt).trans (by rw [hN])) (Set.mem_univ _) () (O := owing c j) (W := W) (R := 0) (m := 0) (T := ∅)
    (by rw [Nat.zero_add, expect_x m c f d h s])) $$ [Hc HO Ha]
  · isplitr; · iapply (inv_at m K c (xkey f d h s)); iexact Hrec
    isplitl [Hc]; · iexact Hc
    isplitl [HO]; · iexact HO
    isplitr
    · iapply ((levs_at m K).trans (mayWait c (.dma (cS f d h s)) j fun o ho => by
        rw [show lv ((c : Thread nD τ), .dma (cS f d h s)) () = levK (xkey f d h s) from lv_k (c, xkey f d h s) ()]
        exact hj o ho))
      iexact Hrec
    iexact Ha
  iintro ⟨HO, Ha, -, Hp⟩
  ihave Hp := (Entails.of_eq (rest_x m c f d h s)) $$ Hp
  imod (Rounds.cell_close ER (Rd m) (Set.mem_univ (K (c, xkey f d h s))) (fun h => h) (R := 0 + 1) (duties_x_later m c f d h s)) $$ [Ha] with Hz
  · isplitr; · iapply (inv_at m K c (xkey f d h s)); iexact Hrec
    iexact Ha
  iapply Hk
  isplitl [HO]; · iexists _; iexact HO
  isplitl [Hz]; · iexact Hz
  iexact Hp

/-! ## The handshake -/

theorem prv_other : ∀ (c : Dev nD) (e : Fin 2), prv c (other e) = toDev c e := by decide +kernel

/-- Telling the neighbour in direction `e` that this core's landing places are ready: they are handed over. -/
theorem signal_step (c n : Dev nD) (e e' : Fin 2) (hn : n = toDev c e) (he : e' = other e) (j : ℕ) (hj : obls[j]? = some (.inl e)) :
    Step c iprop(records m K ∗ owesN c j ∗ dutyTok ER (barC (prv c e')) 0 e' ∗ barPay (F := F) (prv c e') e')
      (semSignalWord n barS 1#32) (owesN c (j + 1)) := fun k Q => by
  subst hn he
  simp only [semSignalWord, Prog.lift, Prog.bind_op, Prog.bind_ret, Prog.pure_eq_ret]
  rw [prv_other]
  have hpay : (Rd (F := F) m).payload (barC (toDev c e)) 0 (other e) = barPay (toDev c e) (other e) := payload_k m (toDev c e) (.inl ()) 0 (other e)
  unfold owesN
  iintro ⟨#Hrec, ⟨%W, HO⟩, Ht, Hp⟩ Hk
  iapply (Rounds.wp_signal 𝒱₀ ER (Rd m) (c : Thread nD τ) none (dst := (toDev c e : Thread nD τ)) (κ := K (toDev c e, .inl ())) (d := other e) (r := 0)
      (by rw [show (Rd (F := F) m).duties (barC (toDev c e)) 0 = Finset.univ from duties_k m (toDev c e) (.inl ()) 0]; exact Finset.mem_univ _)
      (k' := (1#32).toNat) ((amount_k m (toDev c e) (.inl ()) 0 (other e)).trans rfl) () (owing c (j + 1)) (owing_step c j (.inl e) hj) (W := W)) $$ [HO Ht Hp]
  · isplitr; · iapply (inv_at m K (toDev c e) (.inl ())); iexact Hrec
    isplitl [HO]; · iexact HO
    isplitl [Ht]; · iexact Ht
    isplitl [Hp]
    · rw [hpay]; iexact Hp
    iapply (reached_at m K (toDev c e) (.inl ())); iexact Hrec
  iintro HO
  iapply Hk
  iexists W; iexact HO

/-- Waiting for both neighbours: their landing places, and the semaphore back at zero. -/
theorem barWait_step (c : Dev nD) :
    Step c iprop(records m K ∗ cred (tallyAt (barC c) () 2) ∗ owesN c 2 ∗ atPos ER (barC c) 0 ∅ 0)
      (semWaitWord barS 2#32) iprop(owesN c 2 ∗ semVal (barC c) 0 ∗ barPay c 0 ∗ barPay c 1) := fun k Q => by
  simp only [semWaitWord, Prog.lift, Prog.bind_op, Prog.bind_ret, Prog.pure_eq_ret]
  unfold owesN
  iintro ⟨#Hrec, Hc, ⟨%W, HO⟩, Ha⟩ Hk
  iapply (Rounds.wp_wait_rest_token 𝒱₀ ER (Rd m) (c : Thread nD τ) none (κ := K (c, .inl ()))
    (wpE_semWait_eq 𝒱₀ (c : Thread nD τ) none Set.univ) (Set.mem_univ _) () (O := owing c 2) (W := W) (R := 0) (m := 0) (T := ∅)
    (by rw [expect_bar]; decide)) $$ [Hc HO Ha]
  · isplitr; · iapply (inv_at m K c (.inl ())); iexact Hrec
    isplitl [Hc]; · iexact Hc
    isplitl [HO]; · iexact HO
    isplitr
    · iapply ((levs_at m K).trans (mayWait c (.reg barS) 2 (by
        rw [show lv ((c : Thread nD τ), .reg barS) () = 1 from lv_k (c, .inl ()) ()]; decide)))
      iexact Hrec
    iexact Ha
  iintro ⟨HO, Ha, -, Hp⟩
  ihave Hp := (Entails.of_eq (rest_bar m c)) $$ Hp
  imod (Rounds.cell_close ER (Rd m) (Set.mem_univ (K (c, .inl ()))) (fun h => h) (R := 0 + 1) (duties_bar_later m c)) $$ [Ha] with Hz
  · isplitr; · iapply (inv_at m K c (.inl ())); iexact Hrec
    iexact Ha
  iapply Hk
  isplitl [HO]; · iexists _; iexact HO
  isplitl [Hz]; · iexact Hz
  iexact Hp

end Cert.KernelIdeal.Ring

end
-- ==== Proof.Mem.lean ====
/-
# The steps that load and store

Narrowing the first chunk, adding a fetched half chunk to one that has arrived, and storing the reduced half chunk in the
result.
-/
module

public import proofs.«01_k».proof.Proof.Steps
public import Idealize.ShloMosaic.Lib.ValueLayout

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Halves of a slot -/

open ValueIdx in
theorem sth_emb (d sl s : Fin 2) (x : Fin 512) (y : Fin 1024) (hx : 512 * s.val + x.val < 1024) :
    (sthR d sl s).emb (ix4 (n0 := 1) (n1 := 1) ⟨0, Nat.one_pos⟩ ⟨0, Nat.one_pos⟩ x y)
      = (stR d sl).emb (ix4 (n0 := 1) (n1 := 1) ⟨0, Nat.one_pos⟩ ⟨0, Nat.one_pos⟩ (⟨512 * s.val + x.val, hx⟩ : Fin 1024) y) := by
  funext a
  apply Fin.ext
  match a with
  | 0 => rfl
  | 1 => rfl
  | 2 =>
    show 512 * s.val + 1 * x.val = 0 + 1 * (512 * s.val + x.val)
    omega
  | 3 => rfl

theorem sth_subset (d sl s : Fin 2) : (stM.access (sthR d sl s)).set ⊆ (stP d sl).view.set := by
  rw [show (stP d sl).view.set = (stM.access (stR d sl)).set from View.set_reshape _ _]
  show (((View.whole cc0_scratch0).slice (sthR d sl s))).set ⊆ ((View.whole cc0_scratch0).slice (stR d sl)).set
  rw [View.set_slice_whole, View.set_slice_whole]
  intro i hi
  rw [Rect.mem_set_unit] at hi ⊢
  intro a
  have h := hi a
  have hs := s.isLt
  match a with
  | 0 => exact h
  | 1 => exact h
  | 2 =>
    have h1 : 512 * s.val ≤ (i 2).val := h.1
    have h2 : (i 2).val < 512 * s.val + 512 := h.2
    exact ⟨Nat.zero_le _, (show (i 2).val < 0 + 1024 by omega)⟩
  | 3 => exact h

/-- A load of half a slot reads half of what the slot holds. -/
theorem load_half (d sl s : Fin 2) (f : (stM.access (sthR d sl s)).ty.Contents (Elt F)) :
    shapeCast S512x1024 ((stM.access (sthR d sl s)).read (Elt F) f) shapeCasts_S1x1x512x1024_S512x1024
      = half s ((stP d sl).view.read (Elt F) f) := by
  funext j
  obtain ⟨x, y, rfl⟩ : ∃ (x : Fin 512) (y : Fin 1024), j = ValueIdx.ix2 x y := ⟨j 0, j 1, (ValueIdx.eq_ix2 j)⟩
  have hs := s.isLt
  have hx : 512 * s.val + x.val < 1024 := by have := x.isLt; omega
  have e : (stM.access (sthR d sl s)).emb (Shape.reshapeEquiv shapeCasts_S1x1x512x1024_S512x1024 (ValueIdx.ix2 x y))
      = (stP d sl).view.emb (ValueIdx.ix2 (⟨512 * s.val + x.val, hx⟩ : Fin 1024) y) := by
    have e1 := ValueIdx.reshapeEquiv_ix2_11ab (a := 512) (b := 1024) shapeCasts_S1x1x512x1024_S512x1024 x y
    have e2 := ValueIdx.reshapeEquiv_ix2_11ab (a := 1024) (b := 1024) shapeCasts_S1x1x1024x1024_S1024x1024 (⟨512 * s.val + x.val, hx⟩ : Fin 1024) y
    have e3 := sth_emb d sl s x y hx
    refine Eq.trans (congrArg (sthR d sl s).emb e1) (Eq.trans e3 ?_)
    exact (congrArg (stR d sl).emb e2).symm
  unfold shapeCast half
  rw [View.read_apply, View.read_apply]
  exact congrArg (fun i => _root_.cast _ (f i)) e

/-! ## Accumulating -/

theorem rv_set (d : Fin 2) (h : Fin 3) (s : Fin 2) : ((rvM d).access (rvR h s)).set = (rvP d h s).view.set := (View.set_reshape _ _).symm

theorem rv_read (d : Fin 2) (h : Fin 3) (s : Fin 2) (f : (rvP d h s).view.ty.Contents (Elt F)) :
    (rvP d h s).view.read (Elt F) f = shapeCast S512x1024 (((rvM d).access (rvR h s)).read (Elt F) f) shapeCasts_S1x512x1024_S512x1024 := rfl

/-- What the accumulation stores, as a half chunk. -/
theorem pay_accum (d sl : Fin 2) (h : Fin 3) (s : Fin 2) (f : (rvP d h s).view.ty.Contents (Elt F)) (g : (stP d sl).view.ty.Contents (Elt F)) :
    shapeCast S512x1024 (k0_pay3 (((rvM d).access (rvR h s)).read (Elt F) f) ((stM.access (sthR d sl s)).read (Elt F) g)) shapeCasts_S1x512x1024_S512x1024
      = addf (F := F) (s := S512x1024) (φ := .bf16) ((rvP d h s).view.read (Elt F) f) (nar s ((stP d sl).view.read (Elt F) g)) := by
  unfold k0_pay3 nar
  rw [shapeCast_shapeCast, load_half]
  rfl

theorem accum_step (c : Dev nD) (d : Fin 2) (h : Fin 3) (s sl : Fin 2) (A : S512x1024.Idx → Elt F .bf16) (X : S1024x1024.Idx → Elt F .f32) :
    Step c iprop(pc c (rvP d h s) A ∗ pc c (stP d sl) X) (accum d h s sl)
      iprop(pc c (rvP d h s) (addf (F := F) (s := S512x1024) (φ := .bf16) A (nar s X)) ∗ pc c (stP d sl) X) := fun k Q => by
  unfold accum
  simp only [Prog.lift, Prog.bind_op, Prog.bind_ret, Prog.pure_eq_ret]
  unfold pc owns
  iintro ⟨⟨%f, %hf, Hr⟩, ⟨%g, %hg, Hs⟩⟩ Hk
  iapply (wp_load_rect 𝒱₀ (c : Thread nD τ) none Set.univ (m := rvM d) (r := rvR h s) (S := (rvP d h s).view.set) (rv_set d h s).subset (q := fullShare) (f := f)) $$ [Hr]
  · iexact Hr
  iintro Hr
  iapply (wp_load_rect 𝒱₀ (c : Thread nD τ) none Set.univ (m := stM) (r := sthR d sl s) (S := (stP d sl).view.set) (sth_subset d sl s) (q := fullShare) (f := g)) $$ [Hs]
  · iexact Hs
  iintro Hs
  iapply (wp_load_rect 𝒱₀ (c : Thread nD τ) none Set.univ (m := rvM d) (r := rvR h s) (S := (rvP d h s).view.set) (rv_set d h s).subset (q := fullShare) (f := f)) $$ [Hr]
  · iexact Hr
  iintro Hr
  iapply (wp_store 𝒱₀ (c : Thread nD τ) none Set.univ (m := rvM d) (r := rvR h s) (Mk := Finset.univ) (S := (rvP d h s).view.set) (by rw [View.setOn_univ]; exact (rv_set d h s).subset) (f := f)) $$ [Hr]
  · iexact Hr
  iintro Hr
  iapply Hk
  isplitl [Hr]
  · have e : (rvP d h s).view.read (Elt F) (((rvM d).access (rvR h s)).write (Elt F) f
        (k0_pay3 (((rvM d).access (rvR h s)).read (Elt F) f) ((stM.access (sthR d sl s)).read (Elt F) g)) Finset.univ)
        = addf (F := F) (s := S512x1024) (φ := .bf16) A (nar s X) := by
      rw [← hf, ← hg, ← pay_accum]
      rw [rv_read, View.read_write_univ]
    iexists _
    isplitr
    · ipureintro; exact e
    · iexact Hr
  · iexists g
    isplitr
    · ipureintro; exact hg
    · iexact Hs

/-! ## Storing the reduced half chunk -/

/-- A device stores its reduced half chunk where it sends it from first. -/
theorem pOff_eq : ∀ (c : Dev nD) (d s : Fin 2), pOff c d s = oOff c d 0 s := by decide +kernel
/-- What arrives in a hop of the all-gather is sent on in the next. -/
theorem oOff_next1 : ∀ (c : Dev nD) (d s : Fin 2), oOff (prv c d) d 0 s = oOff c d 1 s := by decide +kernel
theorem oOff_next2 : ∀ (c : Dev nD) (d s : Fin 2), oOff (prv c d) d 1 s = oOff c d 2 s := by decide +kernel

theorem oslice_congr {off off' : Fin 2 → ℕ} (h : off = off') (i : ∀ a, off a + S512x1024.size a ≤ S8192x1024.size a) (i' : ∀ a, off' a + S512x1024.size a ≤ S8192x1024.size a) :
    oM.slice (Rect.unit (s := S8192x1024) off S512x1024.size i) (fun _ => rfl) = oM.slice (Rect.unit (s := S8192x1024) off' S512x1024.size i') (fun _ => rfl) := by
  subst h; rfl

theorem oS_own (c : Dev nD) (d s : Fin 2) : oS c d 0 s = oM.slice (pR c d s) (fun _ => rfl) := oslice_congr (pOff_eq c d s).symm _ _
theorem oS_next1 (c : Dev nD) (d s : Fin 2) : oS (prv c d) d 0 s = oS c d 1 s := oslice_congr (oOff_next1 c d s) _ _
theorem oS_next2 (c : Dev nD) (d s : Fin 2) : oS (prv c d) d 1 s = oS c d 2 s := oslice_congr (oOff_next2 c d s) _ _

theorem pay_finish (d : Fin 2) (s : Fin 2) (f : (rvP d 2 s).view.ty.Contents (Elt F)) (g : (stP d 1).view.ty.Contents (Elt F)) :
    k0_pay15 (((rvM d).access (rvR 2 s)).read (Elt F) f) ((stM.access (sthR d 1 s)).read (Elt F) g)
      = addf (F := F) (s := S512x1024) (φ := .bf16) ((rvP d 2 s).view.read (Elt F) f) (nar s ((stP d 1).view.read (Elt F) g)) := by
  unfold k0_pay15 nar
  rw [load_half]
  rfl

theorem finish_step (c : Dev nD) (d s : Fin 2) (A : S512x1024.Idx → Elt F .bf16) (X : S1024x1024.Idx → Elt F .f32) :
    Step c iprop(pc c (rvP d 2 s) A ∗ pc c (stP d 1) X ∗ pe c (oS c d 0 s)) (finish c d s)
      iprop(pc c (rvP d 2 s) A ∗ pc c (stP d 1) X ∗ pc c (oS c d 0 s) (addf (F := F) (s := S512x1024) (φ := .bf16) A (nar s X))) := fun k Q => by
  rw [oS_own]
  unfold finish
  simp only [Prog.lift, Prog.bind_op, Prog.bind_ret, Prog.pure_eq_ret]
  unfold pe pc
  iintro ⟨Hr, Hs, ⟨%Z, Ho⟩⟩ Hk
  unfold owns
  icases Hr with ⟨%f, %hf, Hr⟩
  icases Hs with ⟨%g, %hg, Hs⟩
  icases Ho with ⟨%o, -, Ho⟩
  iapply (wp_load_rect 𝒱₀ (c : Thread nD τ) none Set.univ (m := rvM d) (r := rvR 2 s) (S := (rvP d 2 s).view.set) (rv_set d 2 s).subset (q := fullShare) (f := f)) $$ [Hr]
  · iexact Hr
  iintro Hr
  iapply (wp_load_rect 𝒱₀ (c : Thread nD τ) none Set.univ (m := stM) (r := sthR d 1 s) (S := (stP d 1).view.set) (sth_subset d 1 s) (q := fullShare) (f := g)) $$ [Hs]
  · iexact Hs
  iintro Hs
  iapply (wp_load_rect 𝒱₀ (c : Thread nD τ) none Set.univ (m := oM) (r := pR c d s) (S := (oM.access (pR c d s)).set) subset_rfl (q := fullShare) (f := o)) $$ [Ho]
  · iexact Ho
  iintro Ho
  iapply (wp_store 𝒱₀ (c : Thread nD τ) none Set.univ (m := oM) (r := pR c d s) (Mk := Finset.univ) (S := (oM.access (pR c d s)).set) subset_rfl (f := o)) $$ [Ho]
  · iexact Ho
  iintro Ho
  iapply Hk
  isplitl [Hr]
  · iexists f
    isplitr
    · ipureintro; exact hf
    · iexact Hr
  isplitl [Hs]
  · iexists g
    isplitr
    · ipureintro; exact hg
    · iexact Hs
  · have e : (oM.access (pR c d s)).read (Elt F) ((oM.access (pR c d s)).write (Elt F) o
        (k0_pay15 (((rvM d).access (rvR 2 s)).read (Elt F) f) ((stM.access (sthR d 1 s)).read (Elt F) g)) Finset.univ)
        = addf (F := F) (s := S512x1024) (φ := .bf16) A (nar s X) := by
      rw [← hf, ← hg, ← pay_finish, View.read_write_univ]
    iexists _
    isplitr
    · ipureintro; exact e
    · iexact Ho

/-! ## Narrowing the first chunk -/

/-- The part of the send buffer that direction `d` fills. -/
abbrev sdW (d : Fin 2) : Memref sig .tc .vmem S1x1024x1024 .bf16 := sdM.slice (sdR d) (fun _ => rfl)

open ValueIdx in
theorem sdh_emb (d s : Fin 2) (x : Fin 512) (y : Fin 1024) (hx : 512 * s.val + x.val < 1024) :
    (sdhR d s).emb (ix3 (n0 := 1) ⟨0, Nat.one_pos⟩ x y) = (sdR d).emb (ix3 (n0 := 1) ⟨0, Nat.one_pos⟩ (⟨512 * s.val + x.val, hx⟩ : Fin 1024) y) := by
  funext a
  apply Fin.ext
  match a with
  | 0 => rfl
  | 1 =>
    show 512 * s.val + 1 * x.val = 0 + 1 * (512 * s.val + x.val)
    omega
  | 2 => rfl

theorem sd_set (d : Fin 2) : (sdW d).view.set = (sdP d 0).view.set ∪ (sdP d 1).view.set := by
  rw [show (sdP d 0).view.set = (sdM.access (sdhR d 0)).set from View.set_reshape _ _, show (sdP d 1).view.set = (sdM.access (sdhR d 1)).set from View.set_reshape _ _]
  show (((View.whole cc0_scratch1).slice (sdR d))).set = ((View.whole cc0_scratch1).slice (sdhR d 0)).set ∪ ((View.whole cc0_scratch1).slice (sdhR d 1)).set
  rw [View.set_slice_whole, View.set_slice_whole, View.set_slice_whole]
  ext i
  rw [Finset.mem_union, Rect.mem_set_unit, Rect.mem_set_unit, Rect.mem_set_unit]
  have hi : (i 1).val < 1024 := (i 1).isLt
  constructor
  · intro h
    by_cases hc : (i 1).val < 512
    · left; intro a
      match a with
      | 0 => exact h 0
      | 1 => exact ⟨Nat.zero_le _, show (i 1).val < 0 + 512 by omega⟩
      | 2 => exact h 2
    · right; intro a
      match a with
      | 0 => exact h 0
      | 1 => exact ⟨show 512 ≤ (i 1).val by omega, show (i 1).val < 512 + 512 by omega⟩
      | 2 => exact h 2
  · rintro (h | h) <;> intro a
    all_goals match a with
      | 0 => exact h 0
      | 1 => exact ⟨Nat.zero_le _, show (i 1).val < 0 + 1024 by omega⟩
      | 2 => exact h 2

theorem sd_disj (d : Fin 2) : Disjoint (sdP d 0).view.set (sdP d 1).view.set := by
  rw [show (sdP d 0).view.set = (sdM.access (sdhR d 0)).set from View.set_reshape _ _, show (sdP d 1).view.set = (sdM.access (sdhR d 1)).set from View.set_reshape _ _]
  show Disjoint ((View.whole cc0_scratch1).slice (sdhR d 0)).set ((View.whole cc0_scratch1).slice (sdhR d 1)).set
  rw [View.set_slice_whole, View.set_slice_whole]
  exact Rect.unit_disjoint 1 (Or.inl (show 512 * 0 + 512 ≤ 512 * 1 by decide))

/-- After the narrowing, each half of the send buffer holds its half of the chunk. -/
theorem sd_read (d s : Fin 2) (f : (sdW d).view.ty.Contents (Elt F)) (g : (stP d 0).view.ty.Contents (Elt F)) :
    (sdP d s).view.read (Elt F) ((sdM.access (sdR d)).write (Elt F) f (k0_pay1 ((stM.access (stR d 0)).read (Elt F) g)) Finset.univ)
      = nar s ((stP d 0).view.read (Elt F) g) := by
  funext j
  obtain ⟨x, y, rfl⟩ : ∃ (x : Fin 512) (y : Fin 1024), j = ValueIdx.ix2 x y := ⟨j 0, j 1, (ValueIdx.eq_ix2 j)⟩
  have hs := s.isLt
  have hx : 512 * s.val + x.val < 1024 := by have := x.isLt; omega
  have e : (sdP d s).view.emb (ValueIdx.ix2 x y) = (sdM.access (sdR d)).emb (ValueIdx.ix3 (n0 := 1) ⟨0, Nat.one_pos⟩ (⟨512 * s.val + x.val, hx⟩ : Fin 1024) y) := by
    have e1 := ValueIdx.reshapeEquiv_ix2_1ab (a := 512) (b := 1024) shapeCasts_S1x512x1024_S512x1024 x y
    exact Eq.trans (congrArg (sdhR d s).emb e1) (sdh_emb d s x y hx)
  rw [View.read_apply, e, View.write_emb_of_mem _ _ (Finset.mem_univ _), cast_cast, cast_eq]
  unfold k0_pay1
  rw [ValueIdx.shapeCast_ab_1ab_apply]
  rfl

theorem narrow_step (c : Dev nD) (d : Fin 2) (X : S1024x1024.Idx → Elt F .f32) :
    Step c iprop(pc c (stP d 0) X ∗ pe c (sdW d)) (narrow d)
      iprop(pc c (stP d 0) X ∗ pc c (sdP d 0) (nar 0 X) ∗ pc c (sdP d 1) (nar 1 X)) := fun k Q => by
  unfold narrow
  simp only [Prog.lift, Prog.bind_op, Prog.bind_ret, Prog.pure_eq_ret]
  unfold pe pc owns
  iintro ⟨⟨%g, %hg, Hs⟩, ⟨%Z, %f, -, Hd⟩⟩ Hk
  iapply (wp_load_rect 𝒱₀ (c : Thread nD τ) none Set.univ (m := stM) (r := stR d 0) (S := (stP d 0).view.set) (View.set_reshape _ _).symm.subset (q := fullShare) (f := g)) $$ [Hs]
  · iexact Hs
  iintro Hs
  iapply (wp_load_rect 𝒱₀ (c : Thread nD τ) none Set.univ (m := sdM) (r := sdR d) (S := (sdW d).view.set) subset_rfl (q := fullShare) (f := f)) $$ [Hd]
  · iexact Hd
  iintro Hd
  iapply (wp_store 𝒱₀ (c : Thread nD τ) none Set.univ (m := sdM) (r := sdR d) (Mk := Finset.univ) (S := (sdW d).view.set) subset_rfl (f := f)) $$ [Hd]
  · iexact Hd
  iintro Hd
  have e (s : Fin 2) : (sdP d s).view.read (Elt F) ((sdM.access (sdR d)).write (Elt F) f (k0_pay1 ((stM.access (stR d 0)).read (Elt F) g)) Finset.univ) = nar s X := by
    rw [sd_read, hg]
  rw [sd_set]
  ihave Hd := (pointsTo_union (sd_disj d)).1 $$ Hd
  icases Hd with ⟨Hd0, Hd1⟩
  iapply Hk
  isplitl [Hs]
  · iexists g
    isplitr
    · ipureintro; exact hg
    · iexact Hs
  isplitl [Hd0]
  · iexists _
    isplitr
    · ipureintro; exact e 0
    · iexact Hd0
  · iexists _
    isplitr
    · ipureintro; exact e 1
    · iexact Hd1

end Cert.KernelIdeal.Ring

end
-- ==== Proof.Chain.lean ====
/-
# The stages of a transfer and of a fetch

A transfer is one hop of one phase on one half chunk of one direction; a chain is the sequence of the six transfers of a half
chunk.  The lemmas say how the steps of the program move the transfers of a chain, and the fetch slots, from stage to stage.
-/
module

public import proofs.«01_k».proof.Proof.Mem

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × CK → ℕ)

/-! ## The stages of a transfer -/

/-- The landing place on the neighbour. -/
def dstP (c : Dev nD) (p d : Fin 2) (h : Fin 3) (s : Fin 2) : sProp (MM F) :=
  match p with
  | 0 => pe (toDev c d) (rvP d h s)
  | 1 => pe (toDev c d) (oS c d h s)

/-- What a core holds of a transfer at first, but for the landing place: the two duties of its send, its position at the
    semaphore of the send, and its position and credit at the semaphore of the arrival. -/
def kit (c : Dev nD) (p d : Fin 2) (h : Fin 3) (s : Fin 2) : sProp (MM F) :=
  iprop(dutyTok ER (xC c (snt p) d h s) 0 0 ∗ dutyTok ER (xC (toDev c d) (arr p) d h s) 0 0
    ∗ atPos ER (xC c (snt p) d h s) 0 ∅ 0 ∗ cred (tallyAt (xC c (arr p) d h s) () NX) ∗ atPos ER (xC c (arr p) d h s) 0 ∅ 0)

/-- The stages: not yet sent, sent, the neighbour's counterpart arrived, and both semaphores back at zero. -/
def tr (c : Dev nD) (p d : Fin 2) (h : Fin 3) (s : Fin 2) : Fin 4 → sProp (MM F)
  | 0 => iprop(kit c p d h s ∗ dstP c p d h s)
  | 1 => iprop(cred (tallyAt (xC c (snt p) d h s) () NX) ∗ atPos ER (xC c (snt p) d h s) 0 ∅ 0
      ∗ cred (tallyAt (xC c (arr p) d h s) () NX) ∗ atPos ER (xC c (arr p) d h s) 0 ∅ 0)
  | 2 => iprop(cred (tallyAt (xC c (snt p) d h s) () NX) ∗ atPos ER (xC c (snt p) d h s) 0 ∅ 0 ∗ semVal (xC c (arr p) d h s) 0)
  | 3 => iprop(semVal (xC c (snt p) d h s) 0 ∗ semVal (xC c (arr p) d h s) 0 ∗ xferPay m c (snt p) d h s)

/-- What every step keeps: the records and what the core still owes. -/
abbrev at_ (c : Dev nD) (j : ℕ) : sProp (MM F) := iprop(records m K ∗ owesN c j)

theorem rs_go (c : Dev nD) (d : Fin 2) (h : Fin 3) (s : Fin 2) (j : ℕ) (hj : obls[j]? = some (.inr (0, d, h, s))) :
    Step c iprop(at_ m K c j ∗ tr m c 0 d h s 0 ∗ pc c (rsSrc d h s) (Sv m h.val c d s)) (rsSend c d h s)
      iprop(at_ m K c (j + 1) ∗ tr m c 0 d h s 1) := fun k Q => by
  unfold tr kit dstP
  iintro ⟨⟨#Hrec, HO⟩, ⟨⟨H1, H2, H3, H4, H5⟩, Hd⟩, Hs⟩ Hk
  iapply (rsSend_step m K c d h s j hj k Q) $$ [HO H1 H2 Hd Hs]
  · isplitr; · iexact Hrec
    isplitl [HO]; · iexact HO
    isplitl [H1]; · iexact H1
    isplitl [H2]; · iexact H2
    isplitl [Hs] <;> iassumption
  iintro ⟨Hc, HO⟩
  iapply Hk
  isplitl [HO]
  · isplitr; · iexact Hrec
    iexact HO
  isplitl [Hc]; · iexact Hc
  isplitl [H3]; · iexact H3
  isplitl [H4] <;> iassumption

theorem ag_go (c : Dev nD) (d : Fin 2) (h : Fin 3) (s : Fin 2) (j : ℕ) (hj : obls[j]? = some (.inr (1, d, h, s))) :
    Step c iprop(at_ m K c j ∗ tr m c 1 d h s 0 ∗ pc c (oS c d h s) (Gv m h.val c d s)) (agSend c d h s)
      iprop(at_ m K c (j + 1) ∗ tr m c 1 d h s 1) := fun k Q => by
  unfold tr kit dstP
  iintro ⟨⟨#Hrec, HO⟩, ⟨⟨H1, H2, H3, H4, H5⟩, Hd⟩, Hs⟩ Hk
  iapply (agSend_step m K c d h s j hj k Q) $$ [HO H1 H2 Hd Hs]
  · isplitr; · iexact Hrec
    isplitl [HO]; · iexact HO
    isplitl [H1]; · iexact H1
    isplitl [H2]; · iexact H2
    isplitl [Hs] <;> iassumption
  iintro ⟨Hc, HO⟩
  iapply Hk
  isplitl [HO]
  · isplitr; · iexact Hrec
    iexact HO
  isplitl [Hc]; · iexact Hc
  isplitl [H3]; · iexact H3
  isplitl [H4] <;> iassumption

/-- The neighbour's counterpart arrives. -/
theorem take (c : Dev nD) (p d : Fin 2) (h : Fin 3) (s : Fin 2) (src dst : Memref sig .tc .vmem S512x1024 .bf16)
    {hsrc : src.view.WordExact} {hdst : dst.view.WordExact} (hN : dst.view.dmaCredit = NX)
    (j : ℕ) (hj : ∀ o ∈ obls.drop j, levK (xkey (arr p) d h s) < obLev o) :
    Step c iprop(at_ m K c j ∗ tr m c p d h s 1) (Prog.lift (.waitDma2 (cS (arr p) d h s) src dst hsrc hdst))
      iprop(at_ m K c j ∗ tr m c p d h s 2 ∗ xferPay m c (arr p) d h s) := fun k Q => by
  unfold tr
  iintro ⟨⟨#Hrec, HO⟩, ⟨H1, H2, H3, H4⟩⟩ Hk
  iapply (wait_gen m K c (arr p) d h s src dst hN j hj k Q) $$ [HO H3 H4]
  · isplitr; · iexact Hrec
    isplitl [H3]; · iexact H3
    isplitl [HO] <;> iassumption
  iintro ⟨HO, Hz, Hp⟩
  iapply Hk
  isplitl [HO]
  · isplitr; · iexact Hrec
    iexact HO
  isplitr [Hp]
  · isplitl [H1]; · iexact H1
    isplitl [H2] <;> iassumption
  iexact Hp

theorem came0 (c : Dev nD) (d : Fin 2) (h : Fin 3) (s : Fin 2) : xferPay m c (arr 0) d h s ⊢ pc c (rvP d h s) (Sv m h.val (prv c d) d s) := .rfl
theorem came1 (c : Dev nD) (d : Fin 2) (h : Fin 3) (s : Fin 2) : xferPay m c (arr 1) d h s ⊢ pc c (oS (prv c d) d h s) (Gv m h.val (prv c d) d s) := .rfl

/-- The send has left. -/
theorem fin (c : Dev nD) (p d : Fin 2) (h : Fin 3) (s : Fin 2) (src dst : Memref sig .tc .vmem S512x1024 .bf16)
    {hsrc : src.view.WordExact} {hdst : dst.view.WordExact} (hN : dst.view.dmaCredit = NX) :
    Step c iprop(at_ m K c 26 ∗ tr m c p d h s 2) (Prog.lift (.waitDma2 (cS (snt p) d h s) src dst hsrc hdst))
      iprop(at_ m K c 26 ∗ tr m c p d h s 3) := fun k Q => by
  unfold tr
  iintro ⟨⟨#Hrec, HO⟩, ⟨H1, H2, H3⟩⟩ Hk
  iapply (wait_gen m K c (snt p) d h s src dst hN 26 (fun o ho => absurd ho (by rw [show obls.drop 26 = [] from rfl]; exact List.not_mem_nil)) k Q) $$ [HO H1 H2]
  · isplitr; · iexact Hrec
    isplitl [H1]; · iexact H1
    isplitl [HO] <;> iassumption
  iintro ⟨HO, Hz, Hp⟩
  iapply Hk
  isplitl [HO]
  · isplitr; · iexact Hrec
    iexact HO
  isplitl [Hz]; · iexact Hz
  isplitl [H3] <;> iassumption

/-! ## The steps of a chain -/

/-- Hop `h'` arrives, the fetched chunk is added, and hop `h` is sent. -/
theorem hop_step (c : Dev nD) (h' h : Fin 3) (sl d s : Fin 2) (hs : rsSrc d h s = rvP d h' s) (hh : h.val = h'.val + 1) (j : ℕ)
    (hj : obls[j]? = some (.inr (0, d, h, s))) (hw : ∀ o ∈ obls.drop j, levK (xkey 1 d h' s) < obLev o) :
    Step c iprop(at_ m K c j ∗ (tr m c 0 d h' s 1 ∗ tr m c 0 d h s 0) ∗ pc c (stP d sl) (XC m c d (Fin.ofNat 4 (h'.val + 1)))) (hop c h' h sl d s)
      iprop(at_ m K c (j + 1) ∗ (tr m c 0 d h' s 2 ∗ tr m c 0 d h s 1) ∗ pc c (stP d sl) (XC m c d (Fin.ofNat 4 (h'.val + 1)))) := fun k Q => by
  have hv : Sv m h.val c d s = addf (F := F) (s := S512x1024) (φ := .bf16) (Sv m h'.val (prv c d) d s) (nar s (XC m c d (Fin.ofNat 4 (h'.val + 1)))) := by rw [hh]; rfl
  unfold hop
  simp only [bind_assoc]
  iintro ⟨Ha, ⟨H1, H2⟩, Hx⟩ Hk
  iapply (take m K c 0 d h' s (rsSrc d h' s) (rvP d h' s) (rvP_credit d h' s) j hw _ Q) $$ [Ha H1]
  · isplitl [Ha] <;> iassumption
  iintro ⟨Ha, H1, Hp⟩
  ihave Hp := (came0 m c d h' s) $$ Hp
  iapply (accum_step c d h' s sl (Sv m h'.val (prv c d) d s) (XC m c d (Fin.ofNat 4 (h'.val + 1))) _ Q) $$ [Hp Hx]
  · isplitl [Hp]; · iexact Hp
    iexact Hx
  rw [← hv, ← hs]
  iintro ⟨Hp, Hx⟩
  iapply (rs_go m K c d h s j hj _ Q) $$ [Ha H2 Hp]
  · isplitl [Ha]; · iexact Ha
    isplitl [H2] <;> iassumption
  iintro ⟨Ha, H2⟩
  iapply Hk
  isplitl [Ha]; · iexact Ha
  isplitl [H1 H2]
  · isplitl [H1] <;> iassumption
  iexact Hx

/-- The last hop arrives, the reduced half chunk is stored, and the all-gather starts. -/
theorem last_step (c : Dev nD) (d s : Fin 2) (j : ℕ)
    (hj : obls[j]? = some (.inr (1, d, 0, s))) (hw : ∀ o ∈ obls.drop j, levK (xkey 1 d 2 s) < obLev o) :
    Step c iprop(at_ m K c j ∗ (tr m c 0 d 2 s 1 ∗ tr m c 1 d 0 s 0 ∗ pe c (oS c d 0 s)) ∗ pc c (stP d 1) (XC m c d 3)) (last c d s)
      iprop(at_ m K c (j + 1) ∗ (tr m c 0 d 2 s 2 ∗ tr m c 1 d 0 s 1 ∗ pe c (rvP d 2 s)) ∗ pc c (stP d 1) (XC m c d 3)) := fun k Q => by
  unfold last
  simp only [bind_assoc]
  iintro ⟨Ha, ⟨H1, H2, Ho⟩, Hx⟩ Hk
  iapply (take m K c 0 d 2 s (rsSrc d 2 s) (rvP d 2 s) (rvP_credit d 2 s) j hw _ Q) $$ [Ha H1]
  · isplitl [Ha] <;> iassumption
  iintro ⟨Ha, H1, Hp⟩
  ihave Hp := (came0 m c d 2 s) $$ Hp
  iapply (finish_step c d s (Sv m 2 (prv c d) d s) (XC m c d 3) _ Q) $$ [Hp Hx Ho]
  · isplitl [Hp]; · iexact Hp
    isplitl [Hx] <;> iassumption
  iintro ⟨Hp, Hx, Ho⟩
  iapply (ag_go m K c d 0 s j hj _ Q) $$ [Ha H2 Ho]
  · isplitl [Ha]; · iexact Ha
    isplitl [H2]; · iexact H2
    iexact Ho
  iintro ⟨Ha, H2⟩
  iapply Hk
  isplitl [Ha]; · iexact Ha
  isplitl [H1 H2 Hp]
  · isplitl [H1]; · iexact H1
    isplitl [H2]; · iexact H2
    iexists _; iexact Hp
  iexact Hx

/-- Hop `h'` of the all-gather arrives and is sent on in hop `h`. -/
theorem pass_step (c : Dev nD) (h' h : Fin 3) (d s : Fin 2) (ho : oS (prv c d) d h' s = oS c d h s) (hh : h.val = h'.val + 1) (j : ℕ)
    (hj : obls[j]? = some (.inr (1, d, h, s))) (hw : ∀ o ∈ obls.drop j, levK (xkey 3 d h' s) < obLev o) :
    Step c iprop(at_ m K c j ∗ tr m c 1 d h' s 1 ∗ tr m c 1 d h s 0) (pass c h' h d s)
      iprop(at_ m K c (j + 1) ∗ tr m c 1 d h' s 2 ∗ tr m c 1 d h s 1) := fun k Q => by
  have hv : Gv m h.val c d s = Gv m h'.val (prv c d) d s := by rw [hh]; rfl
  unfold pass
  simp only [bind_assoc]
  iintro ⟨Ha, H1, H2⟩ Hk
  iapply (take m K c 1 d h' s (oS c d h' s) (oS c d h' s) (oS_credit c d h' s) j hw _ Q) $$ [Ha H1]
  · isplitl [Ha] <;> iassumption
  iintro ⟨Ha, H1, Hp⟩
  iapply (ag_go m K c d h s j hj _ Q) $$ [Ha H2 Hp]
  · isplitl [Ha]; · iexact Ha
    isplitl [H2]; · iexact H2
    rw [← ho, hv]
    iapply (came1 m c d h' s); iexact Hp
  iintro ⟨Ha, H2⟩
  iapply Hk
  isplitl [Ha]; · iexact Ha
  isplitl [H1] <;> iassumption

/-- The last hop of the all-gather arrives. -/
theorem end_step (c : Dev nD) (d s : Fin 2) :
    Step c iprop(at_ m K c 26 ∗ tr m c 1 d 2 s 1) (agWait c 3 d 2 s)
      iprop(at_ m K c 26 ∗ tr m c 1 d 2 s 2 ∗ pc c (oS (prv c d) d 2 s) (Gv m 3 c d s)) :=
  take m K c 1 d 2 s (oS c d 2 s) (oS c d 2 s) (oS_credit c d 2 s) 26
    (fun o ho => absurd ho (by rw [show obls.drop 26 = [] from rfl]; exact List.not_mem_nil))

/-- The sends of hop `h` of both phases have left. -/
theorem drain_step (c : Dev nD) (h : Fin 3) (d s : Fin 2) :
    Step c iprop(at_ m K c 26 ∗ tr m c 0 d h s 2 ∗ tr m c 1 d h s 2) (drain c h d s)
      iprop(at_ m K c 26 ∗ tr m c 0 d h s 3 ∗ tr m c 1 d h s 3) := fun k Q => by
  unfold drain
  simp only [bind_assoc]
  iintro ⟨Ha, H1, H2⟩ Hk
  iapply (fin m K c 0 d h s (rvP d h s) (rsSrc d h s) (rsSrc_credit d h s) _ Q) $$ [Ha H1]
  · isplitl [Ha] <;> iassumption
  iintro ⟨Ha, H1⟩
  iapply (fin m K c 1 d h s (oS c d h s) (oS c d h s) (oS_credit c d h s) _ Q) $$ [Ha H2]
  · isplitl [Ha] <;> iassumption
  iintro ⟨Ha, H2⟩
  iapply Hk
  isplitl [Ha]; · iexact Ha
  isplitl [H1] <;> iassumption

/-! ## The stages of a fetch slot -/

/-- The stages of slot `sl` of direction `d`: idle, the first chunk under way, arrived, the second under way, arrived. -/
def FS (c : Dev nD) (d sl : Fin 2) : Fin 5 → sProp (MM F)
  | 0 => iprop(atPos ER (fC c d sl) 0 ∅ 0 ∗ dutyTok ER (fC c d sl) 0 0 ∗ dutyTok ER (fC c d sl) 1 0
      ∗ pc c (xS c d (ch sl 0)) (XC m c d (ch sl 0)) ∗ pc c (xS c d (ch sl 1)) (XC m c d (ch sl 1)))
  | 1 => iprop(cred (tallyAt (fC c d sl) () NF) ∗ atPos ER (fC c d sl) 0 ∅ 0 ∗ dutyTok ER (fC c d sl) 1 0 ∗ pc c (xS c d (ch sl 1)) (XC m c d (ch sl 1)))
  | 2 => iprop(atPos ER (fC c d sl) 1 ∅ 0 ∗ reached ER (fC c d sl) 1 ∗ dutyTok ER (fC c d sl) 1 0
      ∗ pc c (xS c d (ch sl 0)) (XC m c d (ch sl 0)) ∗ pc c (xS c d (ch sl 1)) (XC m c d (ch sl 1)))
  | 3 => iprop(cred (tallyAt (fC c d sl) () NF) ∗ atPos ER (fC c d sl) 1 ∅ 0 ∗ pc c (xS c d (ch sl 0)) (XC m c d (ch sl 0)))
  | 4 => iprop(semVal (fC c d sl) 0 ∗ pc c (xS c d (ch sl 0)) (XC m c d (ch sl 0)) ∗ pc c (xS c d (ch sl 1)) (XC m c d (ch sl 1)))

theorem fetch0 (c : Dev nD) (d : Fin 2) (i : Fin 4) (sl : Fin 2) (hi : ch sl 0 = i) :
    Step c iprop(records m K ∗ FS m c d sl 0 ∗ pe c (stP d sl)) (fetch c d i sl) (FS m c d sl 1) := fun k Q => by
  subst hi
  unfold FS
  iintro ⟨#Hrec, ⟨H1, H2, H3, H4, H5⟩, Hs⟩ Hk
  iapply (fetch_step m K c d (ch sl 0) sl 0 (by decide) rfl k Q) $$ [H2 H4 Hs]
  · isplitr; · iexact Hrec
    isplitr; · iapply (reached_at m K c (fkey d sl)); iexact Hrec
    isplitl [H2]; · iexact H2
    isplitl [H4] <;> iassumption
  iintro Hc
  iapply Hk
  isplitl [Hc]; · iexact Hc
  isplitl [H1]; · iexact H1
  isplitl [H3] <;> iassumption

theorem fetched0 (c : Dev nD) (d : Fin 2) (i : Fin 4) (sl : Fin 2) (j : ℕ) :
    Step c iprop(at_ m K c j ∗ FS m c d sl 1) (fetched c d i sl) iprop(at_ m K c j ∗ FS m c d sl 2 ∗ pc c (stP d sl) (XC m c d (ch sl 0))) := fun k Q => by
  unfold FS
  iintro ⟨⟨#Hrec, HO⟩, H1, H2, H3, H4⟩ Hk
  iapply (fetched_step m K c d i sl 0 (by decide) j k Q) $$ [HO H1 H2]
  · isplitr; · iexact Hrec
    isplitl [H1]; · iexact H1
    isplitl [HO] <;> iassumption
  unfold fetchPay
  iintro ⟨HO, H2, Hr, Hx, Hs⟩
  iapply Hk
  isplitl [HO]
  · isplitr; · iexact Hrec
    iexact HO
  isplitr [Hs]
  · isplitl [H2]; · iexact H2
    isplitl [Hr]; · iexact Hr
    isplitl [H3]; · iexact H3
    isplitl [Hx] <;> iassumption
  iexact Hs

theorem fetch1 (c : Dev nD) (d : Fin 2) (i : Fin 4) (sl : Fin 2) (hi : ch sl 1 = i) :
    Step c iprop(records m K ∗ FS m c d sl 2 ∗ pe c (stP d sl)) (fetch c d i sl) (FS m c d sl 3) := fun k Q => by
  subst hi
  unfold FS
  iintro ⟨#Hrec, ⟨H1, H2, H3, H4, H5⟩, Hs⟩ Hk
  iapply (fetch_step m K c d (ch sl 1) sl 1 (by decide) rfl k Q) $$ [H2 H3 H5 Hs]
  · isplitr; · iexact Hrec
    isplitl [H2]; · iexact H2
    isplitl [H3]; · iexact H3
    isplitl [H5] <;> iassumption
  iintro Hc
  iapply Hk
  isplitl [Hc]; · iexact Hc
  isplitl [H1] <;> iassumption

theorem fetched1 (c : Dev nD) (d : Fin 2) (i : Fin 4) (sl : Fin 2) (j : ℕ) :
    Step c iprop(at_ m K c j ∗ FS m c d sl 3) (fetched c d i sl) iprop(at_ m K c j ∗ FS m c d sl 4 ∗ pc c (stP d sl) (XC m c d (ch sl 1))) := fun k Q => by
  unfold FS
  iintro ⟨⟨#Hrec, HO⟩, H1, H2, H3⟩ Hk
  iapply (fetched_step m K c d i sl 1 (by decide) j k Q) $$ [HO H1 H2]
  · isplitr; · iexact Hrec
    isplitl [H1]; · iexact H1
    isplitl [HO] <;> iassumption
  unfold fetchPay
  iintro ⟨HO, H2, -, Hx, Hs⟩
  imod (Rounds.cell_close ER (Rd m) (Set.mem_univ (K (c, fkey d sl))) (fun h => h) (R := 1 + 1) (duties_later m c (fkey d sl))) $$ [H2] with Hz
  · isplitr; · iapply (inv_at m K c (fkey d sl)); iexact Hrec
    iexact H2
  iapply Hk
  isplitl [HO]
  · isplitr; · iexact Hrec
    iexact HO
  isplitr [Hs]
  · isplitl [Hz]; · iexact Hz
    isplitl [H3] <;> iassumption
  iexact Hs

end Cert.KernelIdeal.Ring

end
-- ==== Proof.Round.lean ====
/-
# The rounds of the program

The program visits the four chains in turn and takes the same step on each.  The lemmas here state what one such round does.
-/
module

public import proofs.«01_k».proof.Proof.Chain

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × CK → ℕ)

/-! ## Rounds over the four chains -/

/-- A resource for each of the four chains (or fetch slots), in the order in which the program visits them. -/
def All (f : Fin 2 → Fin 2 → sProp (MM F)) : sProp (MM F) := iprop(f 0 0 ∗ f 1 0 ∗ f 0 1 ∗ f 1 1)

theorem all_sep (f g : Fin 2 → Fin 2 → sProp (MM F)) : iprop(All f ∗ All g) ⊢ All fun d s => iprop(f d s ∗ g d s) := by
  unfold All
  iintro ⟨⟨A, B, C, D⟩, A', B', C', D'⟩
  isplitl [A A']; · isplitl [A] <;> iassumption
  isplitl [B B']; · isplitl [B] <;> iassumption
  isplitl [C C']; · isplitl [C] <;> iassumption
  isplitl [D] <;> iassumption

theorem all_unsep (f g : Fin 2 → Fin 2 → sProp (MM F)) : (All fun d s => iprop(f d s ∗ g d s)) ⊢ iprop(All f ∗ All g) := by
  unfold All
  iintro ⟨⟨A, A'⟩, ⟨B, B'⟩, ⟨C, C'⟩, D, D'⟩
  isplitl [A B C D]
  · isplitl [A]; · iexact A
    isplitl [B]; · iexact B
    isplitl [C] <;> iassumption
  isplitl [A']; · iexact A'
  isplitl [B']; · iexact B'
  isplitl [C'] <;> iassumption

theorem all_mono {f g : Fin 2 → Fin 2 → sProp (MM F)} (h : ∀ d s, f d s ⊢ g d s) : All f ⊢ All g := by
  unfold All
  iintro ⟨A, B, C, D⟩
  isplitl [A]; · iapply (h 0 0); iexact A
  isplitl [B]; · iapply (h 1 0); iexact B
  isplitl [C]; · iapply (h 0 1); iexact C
  iapply (h 1 1); iexact D

/-- A round: the same step on each chain in turn. -/
theorem round4 (c : Dev nD) {A : ℕ → sProp (MM F)} {P R : Fin 2 → Fin 2 → sProp (MM F)} {p : Fin 2 → Fin 2 → Prog (KEff F) PUnit} {i₀ i₁ i₂ i₃ i₄ : ℕ}
    (h₀ : Step c iprop(A i₀ ∗ P 0 0) (p 0 0) iprop(A i₁ ∗ R 0 0)) (h₁ : Step c iprop(A i₁ ∗ P 1 0) (p 1 0) iprop(A i₂ ∗ R 1 0))
    (h₂ : Step c iprop(A i₂ ∗ P 0 1) (p 0 1) iprop(A i₃ ∗ R 0 1)) (h₃ : Step c iprop(A i₃ ∗ P 1 1) (p 1 1) iprop(A i₄ ∗ R 1 1)) :
    Step c iprop(A i₀ ∗ All P) (p 0 0 >>= fun _ => p 1 0 >>= fun _ => p 0 1 >>= fun _ => p 1 1) iprop(A i₄ ∗ All R) := fun k Q => by
  simp only [bind_assoc]
  unfold All
  iintro ⟨Ha, A, B, C, D⟩ Hk
  iapply (h₀ _ Q) $$ [Ha A]
  · isplitl [Ha] <;> iassumption
  iintro ⟨Ha, A⟩
  iapply (h₁ _ Q) $$ [Ha B]
  · isplitl [Ha] <;> iassumption
  iintro ⟨Ha, B⟩
  iapply (h₂ _ Q) $$ [Ha C]
  · isplitl [Ha] <;> iassumption
  iintro ⟨Ha, C⟩
  iapply (h₃ _ Q) $$ [Ha D]
  · isplitl [Ha] <;> iassumption
  iintro ⟨Ha, D⟩
  iapply Hk
  isplitl [Ha]; · iexact Ha
  isplitl [A]; · iexact A
  isplitl [B]; · iexact B
  isplitl [C] <;> iassumption

/-- A step that uses one direction's slot, with both slots at hand. -/
theorem slot_step (c : Dev nD) {a b : sProp (MM F)} {P R : sProp (MM F)} {p : Prog (KEff F) PUnit} (y : Fin 2 → sProp (MM F)) :
    ∀ (d : Fin 2), Step c iprop(a ∗ P ∗ y d) p iprop(b ∗ R ∗ y d) → Step c iprop((a ∗ y 0 ∗ y 1) ∗ P) p iprop((b ∗ y 0 ∗ y 1) ∗ R)
  | 0, h => Step.conseq (Step.frame (y 1) h)
      (by iintro ⟨⟨Ha, H0, H1⟩, HP⟩
          isplitr [H1]
          · isplitl [Ha]; · iexact Ha
            isplitl [HP] <;> iassumption
          iexact H1)
      (by iintro ⟨⟨Ha, HP, H0⟩, H1⟩
          isplitr [HP]
          · isplitl [Ha]; · iexact Ha
            isplitl [H0] <;> iassumption
          iexact HP)
  | 1, h => Step.conseq (Step.frame (y 0) h)
      (by iintro ⟨⟨Ha, H0, H1⟩, HP⟩
          isplitr [H0]
          · isplitl [Ha]; · iexact Ha
            isplitl [HP] <;> iassumption
          iexact H0)
      (by iintro ⟨⟨Ha, HP, H1⟩, H0⟩
          isplitr [HP]
          · isplitl [Ha]; · iexact Ha
            isplitl [H0] <;> iassumption
          iexact HP)

/-- One hop of the reduce-scatter on all four chains. -/
theorem hops (c : Dev nD) (h' h : Fin 3) (sl : Fin 2) (hs : ∀ d s, rsSrc d h s = rvP d h' s) (hh : h.val = h'.val + 1) (j : ℕ)
    (hj : obls[j]? = some (.inr (0, 0, h, 0)) ∧ obls[j + 1]? = some (.inr (0, 1, h, 0)) ∧ obls[j + 2]? = some (.inr (0, 0, h, 1)) ∧ obls[j + 3]? = some (.inr (0, 1, h, 1)))
    (hw : ∀ i < 4, ∀ d s, ∀ o ∈ obls.drop (j + i), levK (xkey 1 d h' s) < obLev o) :
    Step c iprop((at_ m K c j ∗ pc c (stP 0 sl) (XC m c 0 (Fin.ofNat 4 (h'.val + 1))) ∗ pc c (stP 1 sl) (XC m c 1 (Fin.ofNat 4 (h'.val + 1))))
        ∗ All fun d s => iprop(tr m c 0 d h' s 1 ∗ tr m c 0 d h s 0))
      (hop c h' h sl 0 0 >>= fun _ => hop c h' h sl 1 0 >>= fun _ => hop c h' h sl 0 1 >>= fun _ => hop c h' h sl 1 1)
      iprop((at_ m K c (j + 4) ∗ pc c (stP 0 sl) (XC m c 0 (Fin.ofNat 4 (h'.val + 1))) ∗ pc c (stP 1 sl) (XC m c 1 (Fin.ofNat 4 (h'.val + 1))))
        ∗ All fun d s => iprop(tr m c 0 d h' s 2 ∗ tr m c 0 d h s 1)) :=
  round4 c (A := fun j => iprop(at_ m K c j ∗ pc c (stP 0 sl) (XC m c 0 (Fin.ofNat 4 (h'.val + 1))) ∗ pc c (stP 1 sl) (XC m c 1 (Fin.ofNat 4 (h'.val + 1)))))
    (P := fun d s => iprop(tr m c 0 d h' s 1 ∗ tr m c 0 d h s 0)) (R := fun d s => iprop(tr m c 0 d h' s 2 ∗ tr m c 0 d h s 1)) (p := hop c h' h sl)
    (slot_step c (fun d => pc c (stP d sl) (XC m c d (Fin.ofNat 4 (h'.val + 1)))) 0 (hop_step m K c h' h sl 0 0 (hs 0 0) hh j hj.1 (hw 0 (by decide) 0 0)))
    (slot_step c (fun d => pc c (stP d sl) (XC m c d (Fin.ofNat 4 (h'.val + 1)))) 1 (hop_step m K c h' h sl 1 0 (hs 1 0) hh (j + 1) hj.2.1 (hw 1 (by decide) 1 0)))
    (slot_step c (fun d => pc c (stP d sl) (XC m c d (Fin.ofNat 4 (h'.val + 1)))) 0 (hop_step m K c h' h sl 0 1 (hs 0 1) hh (j + 2) hj.2.2.1 (hw 2 (by decide) 0 1)))
    (slot_step c (fun d => pc c (stP d sl) (XC m c d (Fin.ofNat 4 (h'.val + 1)))) 1 (hop_step m K c h' h sl 1 1 (hs 1 1) hh (j + 3) hj.2.2.2 (hw 3 (by decide) 1 1)))

/-- The last hop and the start of the all-gather on all four chains. -/
theorem lasts (c : Dev nD) :
    Step c iprop((at_ m K c 14 ∗ pc c (stP 0 1) (XC m c 0 3) ∗ pc c (stP 1 1) (XC m c 1 3))
        ∗ All fun d s => iprop(tr m c 0 d 2 s 1 ∗ tr m c 1 d 0 s 0 ∗ pe c (oS c d 0 s)))
      (last c 0 0 >>= fun _ => last c 1 0 >>= fun _ => last c 0 1 >>= fun _ => last c 1 1)
      iprop((at_ m K c 18 ∗ pc c (stP 0 1) (XC m c 0 3) ∗ pc c (stP 1 1) (XC m c 1 3))
        ∗ All fun d s => iprop(tr m c 0 d 2 s 2 ∗ tr m c 1 d 0 s 1 ∗ pe c (rvP d 2 s))) :=
  round4 c (A := fun j => iprop(at_ m K c j ∗ pc c (stP 0 1) (XC m c 0 3) ∗ pc c (stP 1 1) (XC m c 1 3)))
    (P := fun d s => iprop(tr m c 0 d 2 s 1 ∗ tr m c 1 d 0 s 0 ∗ pe c (oS c d 0 s))) (R := fun d s => iprop(tr m c 0 d 2 s 2 ∗ tr m c 1 d 0 s 1 ∗ pe c (rvP d 2 s))) (p := last c)
    (slot_step c (fun d => pc c (stP d 1) (XC m c d 3)) 0 (last_step m K c 0 0 14 rfl (by decide)))
    (slot_step c (fun d => pc c (stP d 1) (XC m c d 3)) 1 (last_step m K c 1 0 15 rfl (by decide)))
    (slot_step c (fun d => pc c (stP d 1) (XC m c d 3)) 0 (last_step m K c 0 1 16 rfl (by decide)))
    (slot_step c (fun d => pc c (stP d 1) (XC m c d 3)) 1 (last_step m K c 1 1 17 rfl (by decide)))

/-- One hop of the all-gather on all four chains. -/
theorem passes (c : Dev nD) (h' h : Fin 3) (ho : ∀ d s, oS (prv c d) d h' s = oS c d h s) (hh : h.val = h'.val + 1) (j : ℕ)
    (hj : obls[j]? = some (.inr (1, 0, h, 0)) ∧ obls[j + 1]? = some (.inr (1, 1, h, 0)) ∧ obls[j + 2]? = some (.inr (1, 0, h, 1)) ∧ obls[j + 3]? = some (.inr (1, 1, h, 1)))
    (hw : ∀ i < 4, ∀ d s, ∀ o ∈ obls.drop (j + i), levK (xkey 3 d h' s) < obLev o) :
    Step c iprop(at_ m K c j ∗ All fun d s => iprop(tr m c 1 d h' s 1 ∗ tr m c 1 d h s 0))
      (pass c h' h 0 0 >>= fun _ => pass c h' h 1 0 >>= fun _ => pass c h' h 0 1 >>= fun _ => pass c h' h 1 1)
      iprop(at_ m K c (j + 4) ∗ All fun d s => iprop(tr m c 1 d h' s 2 ∗ tr m c 1 d h s 1)) :=
  round4 c (A := at_ m K c) (P := fun d s => iprop(tr m c 1 d h' s 1 ∗ tr m c 1 d h s 0)) (R := fun d s => iprop(tr m c 1 d h' s 2 ∗ tr m c 1 d h s 1)) (p := pass c h' h)
    (pass_step m K c h' h 0 0 (ho 0 0) hh j hj.1 (hw 0 (by decide) 0 0))
    (pass_step m K c h' h 1 0 (ho 1 0) hh (j + 1) hj.2.1 (hw 1 (by decide) 1 0))
    (pass_step m K c h' h 0 1 (ho 0 1) hh (j + 2) hj.2.2.1 (hw 2 (by decide) 0 1))
    (pass_step m K c h' h 1 1 (ho 1 1) hh (j + 3) hj.2.2.2 (hw 3 (by decide) 1 1))

theorem ends (c : Dev nD) :
    Step c iprop(at_ m K c 26 ∗ All fun d s => tr m c 1 d 2 s 1)
      (agWait c 3 0 2 0 >>= fun _ => agWait c 3 1 2 0 >>= fun _ => agWait c 3 0 2 1 >>= fun _ => agWait c 3 1 2 1)
      iprop(at_ m K c 26 ∗ All fun d s => iprop(tr m c 1 d 2 s 2 ∗ pc c (oS (prv c d) d 2 s) (Gv m 3 c d s))) :=
  round4 c (A := at_ m K c) (P := fun d s => tr m c 1 d 2 s 1) (R := fun d s => iprop(tr m c 1 d 2 s 2 ∗ pc c (oS (prv c d) d 2 s) (Gv m 3 c d s))) (p := fun d s => agWait c 3 d 2 s)
    (end_step m K c 0 0) (end_step m K c 1 0) (end_step m K c 0 1) (end_step m K c 1 1)

theorem drains (c : Dev nD) (h : Fin 3) :
    Step c iprop(at_ m K c 26 ∗ All fun d s => iprop(tr m c 0 d h s 2 ∗ tr m c 1 d h s 2))
      (drain c h 0 0 >>= fun _ => drain c h 1 0 >>= fun _ => drain c h 0 1 >>= fun _ => drain c h 1 1)
      iprop(at_ m K c 26 ∗ All fun d s => iprop(tr m c 0 d h s 3 ∗ tr m c 1 d h s 3)) :=
  round4 c (A := at_ m K c) (P := fun d s => iprop(tr m c 0 d h s 2 ∗ tr m c 1 d h s 2)) (R := fun d s => iprop(tr m c 0 d h s 3 ∗ tr m c 1 d h s 3)) (p := drain c h)
    (drain_step m K c h 0 0) (drain_step m K c h 1 0) (drain_step m K c h 0 1) (drain_step m K c h 1 1)

/-! ## The beginning -/

/-- The first fetches. -/
theorem opens (c : Dev nD) :
    Step c iprop(records m K ∗ (All fun d sl => FS m c d sl 0) ∗ All fun d sl => pe c (stP d sl)) (open1 c) iprop(All fun d sl => FS m c d sl 1) := fun k Q => by
  unfold open1 All
  simp only [bind_assoc]
  iintro ⟨#Hrec, ⟨A, B, C, D⟩, A', B', C', D'⟩ Hk
  iapply (fetch0 m K c 0 0 0 rfl _ Q) $$ [A A']
  · isplitr; · iexact Hrec
    isplitl [A] <;> iassumption
  iintro A
  iapply (fetch0 m K c 0 1 1 rfl _ Q) $$ [C C']
  · isplitr; · iexact Hrec
    isplitl [C] <;> iassumption
  iintro C
  iapply (fetch0 m K c 1 0 0 rfl _ Q) $$ [B B']
  · isplitr; · iexact Hrec
    isplitl [B] <;> iassumption
  iintro B
  iapply (fetch0 m K c 1 1 1 rfl _ Q) $$ [D D']
  · isplitr; · iexact Hrec
    isplitl [D] <;> iassumption
  iintro D
  iapply Hk
  isplitl [A]; · iexact A
  isplitl [B]; · iexact B
  isplitl [C] <;> iassumption

/-- What a core brings to the handshake: the duties of its two signals, what they hand over, and its place at its own semaphore. -/
def handIn (c : Dev nD) : sProp (MM F) :=
  iprop((dutyTok ER (barC (prv c 0)) 0 0 ∗ barPay (F := F) (prv c 0) 0) ∗ (dutyTok ER (barC (prv c 1)) 0 1 ∗ barPay (F := F) (prv c 1) 1)
    ∗ cred (tallyAt (barC c) () 2) ∗ atPos ER (barC c) 0 ∅ 0)

/-- The handshake: each neighbour's landing places arrive. -/
theorem barrier_step (c : Dev nD) :
    Step c iprop(at_ m K c 0 ∗ handIn c) (barrier c) iprop(at_ m K c 2 ∗ semVal (barC c) 0 ∗ All fun d s => zone c d s) := fun k Q => by
  unfold barrier handIn
  simp only [bind_assoc]
  iintro ⟨⟨#Hrec, HO⟩, ⟨A, A'⟩, ⟨B, B'⟩, C, D⟩ Hk
  iapply (signal_step m K c (toDev c 1) 1 0 rfl rfl 0 rfl _ Q) $$ [HO A A']
  · isplitr; · iexact Hrec
    isplitl [HO]; · iexact HO
    isplitl [A] <;> iassumption
  iintro HO
  iapply (signal_step m K c (toDev c 0) 0 1 rfl rfl 1 rfl _ Q) $$ [HO B B']
  · isplitr; · iexact Hrec
    isplitl [HO]; · iexact HO
    isplitl [B] <;> iassumption
  iintro HO
  iapply (barWait_step m K c k Q) $$ [HO C D]
  · isplitr; · iexact Hrec
    isplitl [C]; · iexact C
    isplitl [HO] <;> iassumption
  unfold barPay
  iintro ⟨HO, Hz, ⟨A, B⟩, ⟨C, D⟩⟩
  iapply Hk
  isplitl [HO]
  · isplitr; · iexact Hrec
    iexact HO
  isplitl [Hz]; · iexact Hz
  unfold All
  isplitl [A]; · iexact A
  isplitl [C]; · iexact C
  isplitl [B] <;> iassumption

/-- Direction `d` starts its reduce-scatter. -/
theorem start_step (c : Dev nD) (d : Fin 2) (j : ℕ)
    (hj : obls[j]? = some (.inr (0, d, 0, 0)) ∧ obls[j + 1]? = some (.inr (0, d, 0, 1))) :
    Step c iprop(at_ m K c j ∗ FS m c d 0 1 ∗ pe c (sdW d) ∗ tr m c 0 d 0 0 0 ∗ tr m c 0 d 0 1 0) (start c d)
      iprop(at_ m K c (j + 2) ∗ FS m c d 0 3 ∗ tr m c 0 d 0 0 1 ∗ tr m c 0 d 0 1 1) := fun k Q => by
  unfold start
  simp only [bind_assoc]
  iintro ⟨Ha, Hf, Hd, H0, H1⟩ Hk
  iapply (fetched0 m K c d 0 0 j _ Q) $$ [Ha Hf]
  · isplitl [Ha] <;> iassumption
  iintro ⟨Ha, Hf, Hs⟩
  iapply (narrow_step c d (XC m c d 0) _ Q) $$ [Hs Hd]
  · isplitl [Hs]; · iexact Hs
    iexact Hd
  iintro ⟨Hs, Hd0, Hd1⟩
  iapply (rs_go m K c d 0 0 j hj.1 _ Q) $$ [Ha H0 Hd0]
  · isplitl [Ha]; · iexact Ha
    isplitl [H0]; · iexact H0
    iexact Hd0
  iintro ⟨Ha, H0⟩
  iapply (rs_go m K c d 0 1 (j + 1) hj.2 _ Q) $$ [Ha H1 Hd1]
  · isplitl [Ha]; · iexact Ha
    isplitl [H1]; · iexact H1
    iexact Hd1
  iintro ⟨⟨#Hrec, HO⟩, H1⟩
  iapply (fetch1 m K c d 2 0 rfl k Q) $$ [Hf Hs]
  · isplitr; · iexact Hrec
    isplitl [Hf]; · iexact Hf
    iexists _; iexact Hs
  iintro Hf
  iapply Hk
  isplitl [HO]
  · isplitr; · iexact Hrec
    iexact HO
  isplitl [Hf]; · iexact Hf
  isplitl [H0] <;> iassumption

end Cert.KernelIdeal.Ring

end
-- ==== Proof.Body.lean ====
/-
# The body, from the handshake to the last send

`body_step` states what a core holds before its body and after it: all its semaphores are back at zero and the pieces of the
result hold the reduced chunks.
-/
module

public import proofs.«01_k».proof.Proof.Round

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × CK → ℕ)

/-- A round of steps. -/
abbrev rd (p : Fin 2 → Fin 2 → Prog (KEff F) PUnit) : Prog (KEff F) PUnit := p 0 0 >>= fun _ => p 1 0 >>= fun _ => p 0 1 >>= fun _ => p 1 1

/-- The body, by rounds. -/
theorem body_rounds (c : Dev nD) (k : PUnit → Prog (KEff F) PUnit) :
    (bodyOn c >>= k) = (open1 c >>= fun _ => barrier c >>= fun _ => start c 0 >>= fun _ => start c 1
      >>= fun _ => fetched c 0 1 1 >>= fun _ => fetched c 1 1 1 >>= fun _ => rd (hop c 0 1 1)
      >>= fun _ => fetch c 0 3 1 >>= fun _ => fetch c 1 3 1 >>= fun _ => fetched c 0 2 0 >>= fun _ => fetched c 1 2 0 >>= fun _ => rd (hop c 1 2 0)
      >>= fun _ => fetched c 0 3 1 >>= fun _ => fetched c 1 3 1 >>= fun _ => rd (last c)
      >>= fun _ => rd (pass c 0 1) >>= fun _ => rd (pass c 1 2) >>= fun _ => rd (fun d s => agWait c 3 d 2 s)
      >>= fun _ => rd (drain c 0) >>= fun _ => rd (drain c 1) >>= fun _ => rd (drain c 2) >>= k) := by
  simp only [bodyOn, rd, bind_assoc]

/-- The transfers of a hop of a phase, on all chains, at a stage. -/
abbrev T (c : Dev nD) (p : Fin 2) (h : Fin 3) (a : Fin 4) : sProp (MM F) := All fun d s => tr m c p d h s a
/-- The same before the landing places are known. -/
abbrev T₀ (c : Dev nD) (p : Fin 2) (h : Fin 3) : sProp (MM F) := All fun d s => kit (F := F) c p d h s

def kits (c : Dev nD) : sProp (MM F) := iprop((T₀ c 0 0 ∗ T₀ c 0 1 ∗ T₀ c 0 2) ∗ T₀ c 1 0 ∗ T₀ c 1 1 ∗ T₀ c 1 2)

/-- What a core's body starts from. -/
def bodyIn (c : Dev nD) : sProp (MM F) :=
  iprop(at_ m K c 0 ∗ handIn c ∗ (All fun d sl => FS m c d sl 0) ∗ (All fun d sl => pe c (stP d sl)) ∗ (pe c (sdW 0) ∗ pe c (sdW 1))
    ∗ kits c ∗ All fun d s => pe c (oS c d 0 s))

/-- What it ends with. -/
def bodyOut (c : Dev nD) : sProp (MM F) :=
  iprop(owesN c 26 ∗ semVal (barC c) 0 ∗ (All fun d sl => FS m c d sl 4) ∗ (All fun d sl => pe c (stP d sl))
    ∗ ((T m c 0 0 3 ∗ T m c 0 1 3 ∗ T m c 0 2 3) ∗ T m c 1 0 3 ∗ T m c 1 1 3 ∗ T m c 1 2 3)
    ∗ (All fun d s => pe c (rvP d 2 s)) ∗ All fun d s => pc c (oS (prv c d) d 2 s) (Gv m 3 c d s))

/-- With the neighbours' landing places, all transfers may be sent. -/
theorem arm (c : Dev nD) : iprop(kits c ∗ All fun d s => zone c d s)
    ⊢ iprop((T m c 0 0 0 ∗ T m c 0 1 0 ∗ T m c 0 2 0) ∗ T m c 1 0 0 ∗ T m c 1 1 0 ∗ T m c 1 2 0) := by
  unfold kits
  iintro ⟨⟨⟨A0, A1, A2⟩, B0, B1, B2⟩, Z⟩
  ihave Z := (show (All fun d s => zone (F := F) c d s) ⊢ All fun d s => iprop((dstP c 0 d 0 s ∗ dstP c 0 d 1 s ∗ dstP c 0 d 2 s) ∗ dstP c 1 d 0 s ∗ dstP c 1 d 1 s ∗ dstP c 1 d 2 s) from .rfl) $$ Z
  ihave Z := (all_unsep (fun d s => iprop(dstP (F := F) c 0 d 0 s ∗ dstP c 0 d 1 s ∗ dstP c 0 d 2 s)) (fun d s => iprop(dstP c 1 d 0 s ∗ dstP c 1 d 1 s ∗ dstP c 1 d 2 s))) $$ Z
  icases Z with ⟨Z, Y⟩
  ihave Z := (all_unsep (fun d s => dstP (F := F) c 0 d 0 s) (fun d s => iprop(dstP c 0 d 1 s ∗ dstP c 0 d 2 s))) $$ Z
  icases Z with ⟨Z0, Z⟩
  ihave Z := (all_unsep (fun d s => dstP (F := F) c 0 d 1 s) (fun d s => dstP c 0 d 2 s)) $$ Z
  icases Z with ⟨Z1, Z2⟩
  ihave Y := (all_unsep (fun d s => dstP (F := F) c 1 d 0 s) (fun d s => iprop(dstP c 1 d 1 s ∗ dstP c 1 d 2 s))) $$ Y
  icases Y with ⟨Y0, Y⟩
  ihave Y := (all_unsep (fun d s => dstP (F := F) c 1 d 1 s) (fun d s => dstP c 1 d 2 s)) $$ Y
  icases Y with ⟨Y1, Y2⟩
  isplitl [A0 A1 A2 Z0 Z1 Z2]
  · isplitl [A0 Z0]
    · iapply (all_sep (fun d s => kit c 0 d 0 s) fun d s => dstP c 0 d 0 s); isplitl [A0] <;> iassumption
    isplitl [A1 Z1]
    · iapply (all_sep (fun d s => kit c 0 d 1 s) fun d s => dstP c 0 d 1 s); isplitl [A1] <;> iassumption
    iapply (all_sep (fun d s => kit c 0 d 2 s) fun d s => dstP c 0 d 2 s); isplitl [A2] <;> iassumption
  · isplitl [B0 Y0]
    · iapply (all_sep (fun d s => kit c 1 d 0 s) fun d s => dstP c 1 d 0 s); isplitl [B0] <;> iassumption
    isplitl [B1 Y1]
    · iapply (all_sep (fun d s => kit c 1 d 1 s) fun d s => dstP c 1 d 1 s); isplitl [B1] <;> iassumption
    iapply (all_sep (fun d s => kit c 1 d 2 s) fun d s => dstP c 1 d 2 s); isplitl [B2] <;> iassumption

theorem hold (c : Dev nD) (d sl : Fin 2) (X : S1024x1024.Idx → Elt F .f32) : pc c (stP d sl) X ⊢ pe c (stP d sl) := by
  iintro H; iexists X; iexact H

/-- The whole body on core `c`. -/
theorem body_step (c : Dev nD) : Step c (bodyIn m K c) (bodyOn c) (bodyOut m c) := fun k Q => by
  rw [body_rounds]
  unfold bodyIn
  iintro ⟨⟨#Hrec, HO⟩, Hh, Hf, Hs, ⟨Hd0, Hd1⟩, Hk, Ho⟩ HQ
  iapply (opens m K c _ Q) $$ [Hf Hs]
  · isplitr; · iexact Hrec
    isplitl [Hf] <;> iassumption
  iintro Hf
  iapply (barrier_step m K c _ Q) $$ [HO Hh]
  · isplitl [HO]
    · isplitr; · iexact Hrec
      iexact HO
    iexact Hh
  iintro ⟨Ha, Hz, Hn⟩
  ihave Ht := (arm m c) $$ [Hk Hn]
  · isplitl [Hk] <;> iassumption
  icases Ht with ⟨⟨A0, A1, A2⟩, B0, B1, B2⟩
  -- the start of the reduce-scatter
  ihave Hf := (show (All fun d sl => FS m c d sl 1) ⊢ iprop(FS m c 0 0 1 ∗ FS m c 1 0 1 ∗ FS m c 0 1 1 ∗ FS m c 1 1 1) from .rfl) $$ Hf
  icases Hf with ⟨F00, F10, F01, F11⟩
  ihave A0 := (show T m c 0 0 0 ⊢ iprop(tr m c 0 0 0 0 0 ∗ tr m c 0 1 0 0 0 ∗ tr m c 0 0 0 1 0 ∗ tr m c 0 1 0 1 0) from .rfl) $$ A0
  icases A0 with ⟨C00, C10, C01, C11⟩
  iapply (start_step m K c 0 2 ⟨rfl, rfl⟩ _ Q) $$ [Ha F00 Hd0 C00 C01]
  · isplitl [Ha]; · iexact Ha
    isplitl [F00]; · iexact F00
    isplitl [Hd0]; · iexact Hd0
    isplitl [C00] <;> iassumption
  iintro ⟨Ha, F00, C00, C01⟩
  iapply (start_step m K c 1 4 ⟨rfl, rfl⟩ _ Q) $$ [Ha F10 Hd1 C10 C11]
  · isplitl [Ha]; · iexact Ha
    isplitl [F10]; · iexact F10
    isplitl [Hd1]; · iexact Hd1
    isplitl [C10] <;> iassumption
  iintro ⟨Ha, F10, C10, C11⟩
  ihave A0 := (show iprop(tr m c 0 0 0 0 1 ∗ tr m c 0 1 0 0 1 ∗ tr m c 0 0 0 1 1 ∗ tr m c 0 1 0 1 1) ⊢ T m c 0 0 1 from .rfl) $$ [C00 C10 C01 C11]
  · isplitl [C00]; · iexact C00
    isplitl [C10]; · iexact C10
    isplitl [C01] <;> iassumption
  -- hop 1
  iapply (fetched0 m K c 0 1 1 6 _ Q) $$ [Ha F01]
  · isplitl [Ha] <;> iassumption
  iintro ⟨Ha, F01, S0⟩
  iapply (fetched0 m K c 1 1 1 6 _ Q) $$ [Ha F11]
  · isplitl [Ha] <;> iassumption
  iintro ⟨Ha, F11, S1⟩
  iapply (hops m K c 0 1 1 (fun _ _ => rfl) rfl 6 ⟨rfl, rfl, rfl, rfl⟩ (by decide) _ Q) $$ [Ha S0 S1 A0 A1]
  · isplitl [Ha S0 S1]
    · isplitl [Ha]; · iexact Ha
      isplitl [S0]; · iexact S0
      iexact S1
    iapply (all_sep (fun d s => tr m c 0 d 0 s 1) fun d s => tr m c 0 d 1 s 0); isplitl [A0] <;> iassumption
  iintro ⟨⟨⟨#Hrec', HO⟩, S0, S1⟩, A⟩
  ihave A := (all_unsep (fun d s => tr m c 0 d 0 s 2) fun d s => tr m c 0 d 1 s 1) $$ A
  icases A with ⟨A0, A1⟩
  iapply (fetch1 m K c 0 3 1 rfl _ Q) $$ [F01 S0]
  · isplitr; · iexact Hrec
    isplitl [F01]; · iexact F01
    iapply (hold c 0 1 _); iexact S0
  iintro F01
  iapply (fetch1 m K c 1 3 1 rfl _ Q) $$ [F11 S1]
  · isplitr; · iexact Hrec
    isplitl [F11]; · iexact F11
    iapply (hold c 1 1 _); iexact S1
  iintro F11
  -- hop 2
  iapply (fetched1 m K c 0 2 0 10 _ Q) $$ [HO F00]
  · isplitl [HO]
    · isplitr; · iexact Hrec
      iexact HO
    iexact F00
  iintro ⟨Ha, F00, R0⟩
  iapply (fetched1 m K c 1 2 0 10 _ Q) $$ [Ha F10]
  · isplitl [Ha] <;> iassumption
  iintro ⟨Ha, F10, R1⟩
  iapply (hops m K c 1 2 0 (fun _ _ => rfl) rfl 10 ⟨rfl, rfl, rfl, rfl⟩ (by decide) _ Q) $$ [Ha R0 R1 A1 A2]
  · isplitl [Ha R0 R1]
    · isplitl [Ha]; · iexact Ha
      isplitl [R0]; · iexact R0
      iexact R1
    iapply (all_sep (fun d s => tr m c 0 d 1 s 1) fun d s => tr m c 0 d 2 s 0); isplitl [A1] <;> iassumption
  iintro ⟨⟨Ha, R0, R1⟩, A⟩
  ihave A := (all_unsep (fun d s => tr m c 0 d 1 s 2) fun d s => tr m c 0 d 2 s 1) $$ A
  icases A with ⟨A1, A2⟩
  -- the last hop
  iapply (fetched1 m K c 0 3 1 14 _ Q) $$ [Ha F01]
  · isplitl [Ha] <;> iassumption
  iintro ⟨Ha, F01, S0⟩
  iapply (fetched1 m K c 1 3 1 14 _ Q) $$ [Ha F11]
  · isplitl [Ha] <;> iassumption
  iintro ⟨Ha, F11, S1⟩
  iapply (lasts m K c _ Q) $$ [Ha S0 S1 A2 B0 Ho]
  · isplitl [Ha S0 S1]
    · isplitl [Ha]; · iexact Ha
      isplitl [S0]; · iexact S0
      iexact S1
    iapply (all_sep (fun d s => tr m c 0 d 2 s 1) fun d s => iprop(tr m c 1 d 0 s 0 ∗ pe c (oS c d 0 s)))
    isplitl [A2]; · iexact A2
    iapply (all_sep (fun d s => tr m c 1 d 0 s 0) fun d s => pe c (oS c d 0 s))
    isplitl [B0] <;> iassumption
  iintro ⟨⟨Ha, S0, S1⟩, A⟩
  ihave A := (all_unsep (fun d s => tr m c 0 d 2 s 2) fun d s => iprop(tr m c 1 d 0 s 1 ∗ pe c (rvP d 2 s))) $$ A
  icases A with ⟨A2, B⟩
  ihave B := (all_unsep (fun d s => tr m c 1 d 0 s 1) fun d s => pe c (rvP d 2 s)) $$ B
  icases B with ⟨B0, Hrv⟩
  -- the all-gather
  iapply (passes m K c 0 1 (oS_next1 c) rfl 18 ⟨rfl, rfl, rfl, rfl⟩ (by decide) _ Q) $$ [Ha B0 B1]
  · isplitl [Ha]; · iexact Ha
    iapply (all_sep (fun d s => tr m c 1 d 0 s 1) fun d s => tr m c 1 d 1 s 0); isplitl [B0] <;> iassumption
  iintro ⟨Ha, B⟩
  ihave B := (all_unsep (fun d s => tr m c 1 d 0 s 2) fun d s => tr m c 1 d 1 s 1) $$ B
  icases B with ⟨B0, B1⟩
  iapply (passes m K c 1 2 (oS_next2 c) rfl 22 ⟨rfl, rfl, rfl, rfl⟩ (by decide) _ Q) $$ [Ha B1 B2]
  · isplitl [Ha]; · iexact Ha
    iapply (all_sep (fun d s => tr m c 1 d 1 s 1) fun d s => tr m c 1 d 2 s 0); isplitl [B1] <;> iassumption
  iintro ⟨Ha, B⟩
  ihave B := (all_unsep (fun d s => tr m c 1 d 1 s 2) fun d s => tr m c 1 d 2 s 1) $$ B
  icases B with ⟨B1, B2⟩
  iapply (ends m K c _ Q) $$ [Ha B2]
  · isplitl [Ha] <;> iassumption
  iintro ⟨Ha, B⟩
  ihave B := (all_unsep (fun d s => tr m c 1 d 2 s 2) fun d s => pc c (oS (prv c d) d 2 s) (Gv m 3 c d s)) $$ B
  icases B with ⟨B2, Hout⟩
  -- the sends have left
  iapply (drains m K c 0 _ Q) $$ [Ha A0 B0]
  · isplitl [Ha]; · iexact Ha
    iapply (all_sep (fun d s => tr m c 0 d 0 s 2) fun d s => tr m c 1 d 0 s 2); isplitl [A0] <;> iassumption
  iintro ⟨Ha, A⟩
  ihave A := (all_unsep (fun d s => tr m c 0 d 0 s 3) fun d s => tr m c 1 d 0 s 3) $$ A
  icases A with ⟨A0, B0⟩
  iapply (drains m K c 1 _ Q) $$ [Ha A1 B1]
  · isplitl [Ha]; · iexact Ha
    iapply (all_sep (fun d s => tr m c 0 d 1 s 2) fun d s => tr m c 1 d 1 s 2); isplitl [A1] <;> iassumption
  iintro ⟨Ha, A⟩
  ihave A := (all_unsep (fun d s => tr m c 0 d 1 s 3) fun d s => tr m c 1 d 1 s 3) $$ A
  icases A with ⟨A1, B1⟩
  iapply (drains m K c 2 k Q) $$ [Ha A2 B2]
  · isplitl [Ha]; · iexact Ha
    iapply (all_sep (fun d s => tr m c 0 d 2 s 2) fun d s => tr m c 1 d 2 s 2); isplitl [A2] <;> iassumption
  iintro ⟨⟨-, HO⟩, A⟩
  ihave A := (all_unsep (fun d s => tr m c 0 d 2 s 3) fun d s => tr m c 1 d 2 s 3) $$ A
  icases A with ⟨A2, B2⟩
  iapply HQ
  unfold bodyOut
  isplitl [HO]; · iexact HO
  isplitl [Hz]; · iexact Hz
  isplitl [F00 F10 F01 F11]
  · unfold All
    isplitl [F00]; · iexact F00
    isplitl [F10]; · iexact F10
    isplitl [F01] <;> iassumption
  isplitl [R0 R1 S0 S1]
  · unfold All
    isplitl [R0]; · iapply (hold c 0 0 _); iexact R0
    isplitl [R1]; · iapply (hold c 1 0 _); iexact R1
    isplitl [S0]; · iapply (hold c 0 1 _); iexact S0
    iapply (hold c 1 1 _); iexact S1
  isplitl [A0 A1 A2 B0 B1 B2]
  · isplitl [A0 A1 A2]
    · isplitl [A0]; · iexact A0
      isplitl [A1] <;> iassumption
    isplitl [B0]; · iexact B0
    isplitl [B1] <;> iassumption
  isplitl [Hrv] <;> iassumption

end Cert.KernelIdeal.Ring

end
-- ==== Proof.Pieces.lean ====
/-
# Buffers in pieces

Each buffer of a core as the pieces its copies and loads touch: splitting it before the body and joining it afterwards.
-/
module

public import proofs.«01_k».proof.Proof.Body

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## Splitting and joining at any contents -/

section Glue
variable {T : Type} [Fintype T] [DecidableEq T] (c : Dev nD) {sp : Space} {sh : Shape} {e : EltTy} (M : Memref sig .tc sp sh e)
  (r : T → Rect sh) (hr : ∀ t a, (r t).stride a = 1) (hd : ∀ t t', t ≠ t' → Disjoint (r t).set (r t').set)
  (hcov : (Finset.univ : Finset T).biUnion (fun t => (r t).set) = Finset.univ)

/-- One function out of one for each rectangle. -/
def glue {α : Type} (r : T → Rect sh) (X : ∀ t, (r t).shape.Idx → α) (x₀ : α) : sh.Idx → α := fun i =>
  open Classical in if h : ∃ p : (t : T) × (r t).shape.Idx, (r p.1).emb p.2 = i then X h.choose.1 h.choose.2 else x₀

include hd in
theorem glue_emb {α : Type} (X : ∀ t, (r t).shape.Idx → α) (x₀ : α) (t : T) (j : (r t).shape.Idx) : glue r X x₀ ((r t).emb j) = X t j := by
  have h : ∃ p : (t : T) × (r t).shape.Idx, (r p.1).emb p.2 = (r t).emb j := ⟨⟨t, j⟩, rfl⟩
  unfold glue
  rw [dif_pos h]
  generalize hp : h.choose = p
  have e : (r p.1).emb p.2 = (r t).emb j := hp ▸ h.choose_spec
  obtain ⟨t₁, j₁⟩ := p
  have ht : t₁ = t := by
    by_contra hne
    have e' : (r t₁).emb j₁ = (r t).emb j := e
    have h₁ : (r t₁).emb j₁ ∈ (r t₁).set := (r t₁).toLoadRect.idx_mem j₁
    have h₂ : (r t₁).emb j₁ ∈ (r t).set := e' ▸ (r t).toLoadRect.idx_mem j
    exact Finset.disjoint_left.mp (hd t₁ t hne) h₁ h₂
  subst ht
  have hj : j₁ = j := (r t₁).emb.injective e
  rw [hj]

include hd hcov in
theorem pe_rects : pe (F := F) c M ⊢ bigSep Finset.univ fun t => pe c (M.slice (r t) (hr t)) := by
  iintro ⟨%X, H⟩
  ihave H := (owns_rects (Ix := Unit) (Name := ℕ) (U := UU) (Lvl := ℕ) (c : Thread nD τ) M fullShare r hr hd hcov X) $$ H
  iapply (show (bigSep Finset.univ fun t => pc c (M.slice (r t) (hr t)) (fun j => X ((r t).emb j))) ⊢ (bigSep Finset.univ fun t => pe c (M.slice (r t) (hr t)) : sProp (MM F)) from
    bigSep_mono fun t _ => (show pc c (M.slice (r t) (hr t)) (fun j => X ((r t).emb j)) ⊢ pe c (M.slice (r t) (hr t)) from by
      iintro H; iexists _; iexact H))
  iexact H

include hd hcov in
theorem pe_of_rects [∀ e, Nonempty (Elt F e)] : (bigSep Finset.univ fun t => pe (F := F) c (M.slice (r t) (hr t))) ⊢ pe c M := by
  iintro H
  ihave H := (BI.bigSep_exists_pi Finset.univ (fun (t : T) (X : (r t).shape.Idx → Elt F e) => pc c (M.slice (r t) (hr t)) X)) $$ H
  icases H with ⟨%X, H⟩
  iexists (glue r X (Classical.arbitrary _))
  iapply (owns_of_rects (Ix := Unit) (Name := ℕ) (U := UU) (Lvl := ℕ) (c : Thread nD τ) M fullShare r hr hd hcov (glue r X (Classical.arbitrary _)))
  iapply (show (bigSep Finset.univ fun t => pc c (M.slice (r t) (hr t)) (X t)) ⊢ (bigSep Finset.univ fun t => pc c (M.slice (r t) (hr t)) (fun j => glue r X (Classical.arbitrary _) ((r t).emb j)) : sProp (MM F)) from
    bigSep_mono fun t _ => Entails.of_eq (show pc c (M.slice (r t) (hr t)) (X t) = owns (c : Thread nD τ) (M.slice (r t) (hr t)) fullShare (fun j => glue r X (Classical.arbitrary _) ((r t).emb j)) from
    congrArg (pc c (M.slice (r t) (hr t))) (funext fun j => (glue_emb r hd X _ t j).symm)))
  iexact H

/-- A piece squeezed is the piece. -/
theorem pe_squeeze (t : Shape) (h : sh.Squeezes t) : pe (F := F) c M ⊢ pe c (M.squeeze t h) := by
  unfold pe pc owns
  iintro ⟨%X, %g, -, H⟩
  iexists ((M.squeeze t h).view.read (Elt F) g), g
  isplitr; · ipureintro; rfl
  rw [show (M.squeeze t h).view.set = M.view.set from View.set_reshape _ _]
  iexact H
theorem pe_unsqueeze (t : Shape) (h : sh.Squeezes t) : pe (F := F) c (M.squeeze t h) ⊢ pe c M := by
  unfold pe pc owns
  iintro ⟨%X, %g, -, H⟩
  iexists (M.view.read (Elt F) g), g
  isplitr; · ipureintro; rfl
  rw [show (M.squeeze t h).view.set = M.view.set from View.set_reshape _ _]
  iexact H

end Glue

theorem pe_whole (c : Dev nD) (b : Ref sig .tc) : pe (F := F) c (Memref.whole b) ⊣⊢ iprop(∃ f : Buf (Elt F) ((c : Thread nD τ).loc b), (c : Thread nD τ).loc b ↦{fullShare} f) := by
  unfold pe pc
  simp only [owns_whole]
  exact ⟨.rfl, .rfl⟩

theorem all_eq (f : Fin 2 → Fin 2 → sProp (MM F)) : (bigSep Finset.univ fun p : Fin 2 × Fin 2 => f p.1 p.2) = All f :=
  bigSep_univ_eq_bigSepL [(0, 0), (1, 0), (0, 1), (1, 1)] (by decide) (by decide) _
theorem two_eq (f : Fin 2 → sProp (MM F)) : (bigSep Finset.univ f) = iprop(f 0 ∗ f 1) := bigSep_univ_eq_bigSepL [0, 1] (by decide) (by decide) f
theorem three_eq (f : Fin 3 → sProp (MM F)) : (bigSep Finset.univ f) = iprop(f 0 ∗ f 1 ∗ f 2) := bigSep_univ_eq_bigSepL [0, 1, 2] (by decide) (by decide) f
theorem four_eq (f : Fin 4 → sProp (MM F)) : (bigSep Finset.univ f) = iprop(f 0 ∗ f 1 ∗ f 2 ∗ f 3) := bigSep_univ_eq_bigSepL [0, 1, 2, 3] (by decide) (by decide) f

/-! ## Blocks of whole rows -/

section Rows
variable {T : Type} [Fintype T] [DecidableEq T] {sz : Fin 2 → ℕ} (off : T → Fin 2 → ℕ) (inb : ∀ t a, off t a + sz a ≤ S8192x1024.size a)

theorem rows_disj (B : ℕ) (hB : sz 0 = B) (h : ∀ t t', t ≠ t' → off t 0 + B ≤ off t' 0 ∨ off t' 0 + B ≤ off t 0) (t t' : T) (ht : t ≠ t') :
    Disjoint (Rect.unit (s := S8192x1024) (off t) sz (inb t)).set (Rect.unit (s := S8192x1024) (off t') sz (inb t')).set :=
  Rect.unit_disjoint 0 (by rw [hB]; exact h t t' ht)

theorem rows_cover (B n : ℕ) (hB : sz 0 = B) (hsz : sz 1 = 1024) (hp : 0 < B) (hn : n * B = 8192) (h0 : ∀ t, off t 1 = 0) (h : ∀ q : Fin n, ∃ t, off t 0 = B * q.val) :
    (Finset.univ : Finset T).biUnion (fun t => (Rect.unit (s := S8192x1024) (off t) sz (inb t)).set) = Finset.univ := by
  ext i
  refine ⟨fun _ => Finset.mem_univ _, fun _ => ?_⟩
  have hi : (i 0).val < 8192 := (i 0).isLt
  have hi1 : (i 1).val < 1024 := (i 1).isLt
  obtain ⟨t, ht⟩ := h ⟨(i 0).val / B, Nat.div_lt_of_lt_mul (by rw [Nat.mul_comm, hn]; exact hi)⟩
  refine Finset.mem_biUnion.mpr ⟨t, Finset.mem_univ _, ?_⟩
  rw [Rect.mem_set_unit]
  intro a
  match a with
  | 0 =>
    have e := Nat.div_add_mod (i 0).val B
    have l := Nat.mod_lt (i 0).val hp
    have ht' : off t 0 = B * ((i 0).val / B) := ht
    exact ⟨by rw [ht']; omega, by rw [ht', hB]; omega⟩
  | 1 => exact ⟨by rw [h0 t]; exact Nat.zero_le _, by rw [h0 t, hsz]; omega⟩

end Rows

/-! ## The argument's chunks -/

abbrev XT : Type := (Fin 2 × Fin 2) × Fin 2
abbrev xo (c : Dev nD) (t : XT) : Fin 2 → ℕ := xOff c t.1.1 (ch t.1.2 t.2.val)
theorem xo_sep : ∀ (c : Dev nD) (t t' : XT), t ≠ t' → xo c t 0 + 1024 ≤ xo c t' 0 ∨ xo c t' 0 + 1024 ≤ xo c t 0 := by decide +kernel
theorem xo_one : ∀ (c : Dev nD) (t : XT), xo c t 1 = 0 := by decide +kernel
theorem xo_all : ∀ (c : Dev nD) (q : Fin 8), ∃ t : XT, xo c t 0 = 1024 * q.val := by decide +kernel

theorem x_eq (c : Dev nD) : (bigSep Finset.univ fun t : XT => pc c (xS c t.1.1 (ch t.1.2 t.2.val)) (XC m c t.1.1 (ch t.1.2 t.2.val)))
    = All fun d sl => iprop(pc c (xS c d (ch sl 0)) (XC m c d (ch sl 0)) ∗ pc c (xS c d (ch sl 1)) (XC m c d (ch sl 1))) := by
  rw [bigSep_univ_prod, ← all_eq]
  exact bigSep_congr fun p _ => two_eq (fun r => pc c (xS c p.1 (ch p.2 r.val)) (XC m c p.1 (ch p.2 r.val)))

theorem x_split (c : Dev nD) : ((c : Thread nD τ).loc main_arg0 ↦{fullShare} m ((c : Thread nD τ).loc main_arg0) : sProp (MM F))
    ⊢ All fun d sl => iprop(pc c (xS c d (ch sl 0)) (XC m c d (ch sl 0)) ∗ pc c (xS c d (ch sl 1)) (XC m c d (ch sl 1))) := by
  rw [← x_eq, ← owns_whole]
  exact owns_rects (Ix := Unit) (Name := ℕ) (U := UU) (Lvl := ℕ) (c : Thread nD τ) xM fullShare (fun t : XT => Rect.unit (s := S8192x1024) (xo c t) S1024x1024.size (xOff_inb c _ _)) (fun _ _ => rfl)
    (rows_disj (xo c) _ 1024 rfl (xo_sep c)) (rows_cover (xo c) _ 1024 8 rfl rfl (by decide) rfl (xo_one c) (xo_all c)) (m ((c : Thread nD τ).loc main_arg0))

theorem x_join [∀ e, Nonempty (Elt F e)] (c : Dev nD) : (All fun d sl => iprop(pc c (xS c d (ch sl 0)) (XC m c d (ch sl 0)) ∗ pc c (xS c d (ch sl 1)) (XC m c d (ch sl 1))))
    ⊢ ((c : Thread nD τ).loc main_arg0 ↦{fullShare} m ((c : Thread nD τ).loc main_arg0) : sProp (MM F)) := by
  rw [← x_eq, ← owns_whole]
  exact owns_of_rects (Ix := Unit) (Name := ℕ) (U := UU) (Lvl := ℕ) (c : Thread nD τ) xM fullShare (fun t : XT => Rect.unit (s := S8192x1024) (xo c t) S1024x1024.size (xOff_inb c _ _)) (fun _ _ => rfl)
    (rows_disj (xo c) _ 1024 rfl (xo_sep c)) (rows_cover (xo c) _ 1024 8 rfl rfl (by decide) rfl (xo_one c) (xo_all c)) (m ((c : Thread nD τ).loc main_arg0))

/-! ## The fetch slots -/

theorem st_disj (p p' : Fin 2 × Fin 2) (h : p ≠ p') : Disjoint (stR p.1 p.2).set (stR p'.1 p'.2).set := by
  by_cases h0 : p.1 = p'.1
  · have h1 : p.2.val ≠ p'.2.val := fun e => h (Prod.ext h0 (Fin.ext e))
    exact Rect.unit_disjoint 1 (show p.2.val + 1 ≤ p'.2.val ∨ p'.2.val + 1 ≤ p.2.val by omega)
  · have h1 : p.1.val ≠ p'.1.val := fun e => h0 (Fin.ext e)
    exact Rect.unit_disjoint 0 (show p.1.val + 1 ≤ p'.1.val ∨ p'.1.val + 1 ≤ p.1.val by omega)

theorem st_cover : (Finset.univ : Finset (Fin 2 × Fin 2)).biUnion (fun p => (stR p.1 p.2).set) = Finset.univ := by
  ext i
  refine ⟨fun _ => Finset.mem_univ _, fun _ => Finset.mem_biUnion.mpr ⟨(i 0, i 1), Finset.mem_univ _, Rect.mem_set_unit.mpr fun a => ?_⟩⟩
  match a with
  | 0 => exact ⟨le_refl _, Nat.lt_succ_self _⟩
  | 1 => exact ⟨le_refl _, Nat.lt_succ_self _⟩
  | 2 => exact ⟨Nat.zero_le _, show (i 2).val < 0 + 1024 by rw [Nat.zero_add]; exact (i 2).isLt⟩
  | 3 => exact ⟨Nat.zero_le _, show (i 3).val < 0 + 1024 by rw [Nat.zero_add]; exact (i 3).isLt⟩

theorem st_split (c : Dev nD) : iprop(∃ f : Buf (Elt F) ((c : Thread nD τ).loc cc0_scratch0), (c : Thread nD τ).loc cc0_scratch0 ↦{fullShare} f) ⊢ All fun d sl => pe (F := F) c (stP d sl) := by
  rw [← all_eq]
  refine (pe_whole c cc0_scratch0).2.trans ((pe_rects c stM (fun p : Fin 2 × Fin 2 => stR p.1 p.2) (fun _ _ => rfl) st_disj st_cover).trans ?_)
  exact bigSep_mono fun p _ => pe_squeeze c _ _ _
theorem st_join [∀ e, Nonempty (Elt F e)] (c : Dev nD) : (All fun d sl => pe (F := F) c (stP d sl)) ⊢ iprop(∃ f : Buf (Elt F) ((c : Thread nD τ).loc cc0_scratch0), (c : Thread nD τ).loc cc0_scratch0 ↦{fullShare} f) := by
  rw [← all_eq]
  refine BIBase.Entails.trans ?_ ((pe_of_rects c stM (fun p : Fin 2 × Fin 2 => stR p.1 p.2) (fun _ _ => rfl) st_disj st_cover).trans (pe_whole c cc0_scratch0).1)
  exact bigSep_mono fun p _ => pe_unsqueeze c (stM.slice (stR p.1 p.2) (fun _ => rfl)) _ squeezes_S1x1x1024x1024_S1024x1024

/-! ## The send buffer -/

theorem sd_disj2 (p p' : Fin 2) (h : p ≠ p') : Disjoint (sdR p).set (sdR p').set := by
  have h1 : p.val ≠ p'.val := fun e => h (Fin.ext e)
  exact Rect.unit_disjoint 0 (show p.val + 1 ≤ p'.val ∨ p'.val + 1 ≤ p.val by omega)
theorem sd_cover2 : (Finset.univ : Finset (Fin 2)).biUnion (fun p => (sdR p).set) = Finset.univ := by
  ext i
  refine ⟨fun _ => Finset.mem_univ _, fun _ => Finset.mem_biUnion.mpr ⟨i 0, Finset.mem_univ _, Rect.mem_set_unit.mpr fun a => ?_⟩⟩
  match a with
  | 0 => exact ⟨le_refl _, Nat.lt_succ_self _⟩
  | 1 => exact ⟨Nat.zero_le _, show (i 1).val < 0 + 1024 by rw [Nat.zero_add]; exact (i 1).isLt⟩
  | 2 => exact ⟨Nat.zero_le _, show (i 2).val < 0 + 1024 by rw [Nat.zero_add]; exact (i 2).isLt⟩

theorem half_lt (x : ℕ) (hx : x < 1024) : x / 512 < 2 := by omega

/-- The half a row of a chunk lies in. -/
theorem half_mem (x : ℕ) : 512 * (x / 512) ≤ x ∧ x < 512 * (x / 512) + 512 := by omega

theorem sd_disj4 (p p' : Fin 2 × Fin 2) (h : p ≠ p') : Disjoint (sdhR p.1 p.2).set (sdhR p'.1 p'.2).set := by
  by_cases h0 : p.1 = p'.1
  · have h1 : p.2.val ≠ p'.2.val := fun e => h (Prod.ext h0 (Fin.ext e))
    exact Rect.unit_disjoint 1 (show 512 * p.2.val + 512 ≤ 512 * p'.2.val ∨ 512 * p'.2.val + 512 ≤ 512 * p.2.val by omega)
  · have h1 : p.1.val ≠ p'.1.val := fun e => h0 (Fin.ext e)
    exact Rect.unit_disjoint 0 (show p.1.val + 1 ≤ p'.1.val ∨ p'.1.val + 1 ≤ p.1.val by omega)
theorem sd_cover4 : (Finset.univ : Finset (Fin 2 × Fin 2)).biUnion (fun p => (sdhR p.1 p.2).set) = Finset.univ := by
  ext i
  refine ⟨fun _ => Finset.mem_univ _, fun _ => Finset.mem_biUnion.mpr ⟨(i 0, ⟨(i 1).val / 512, half_lt _ (i 1).isLt⟩), Finset.mem_univ _, Rect.mem_set_unit.mpr fun a => ?_⟩⟩
  match a with
  | 0 => exact ⟨le_refl _, Nat.lt_succ_self _⟩
  | 1 => exact half_mem (i 1).val
  | 2 => exact ⟨Nat.zero_le _, show (i 2).val < 0 + 1024 by rw [Nat.zero_add]; exact (i 2).isLt⟩

theorem sd_split (c : Dev nD) : iprop(∃ f : Buf (Elt F) ((c : Thread nD τ).loc cc0_scratch1), (c : Thread nD τ).loc cc0_scratch1 ↦{fullShare} f) ⊢ iprop(pe (F := F) c (sdW 0) ∗ pe c (sdW 1)) := by
  rw [← two_eq fun d => pe (F := F) c (sdW d)]
  exact (pe_whole c cc0_scratch1).2.trans (pe_rects c sdM sdR (fun _ _ => rfl) sd_disj2 sd_cover2)
theorem sd_join [∀ e, Nonempty (Elt F e)] (c : Dev nD) : (All fun d s => pe (F := F) c (sdP d s)) ⊢ iprop(∃ f : Buf (Elt F) ((c : Thread nD τ).loc cc0_scratch1), (c : Thread nD τ).loc cc0_scratch1 ↦{fullShare} f) := by
  rw [← all_eq]
  refine BIBase.Entails.trans ?_ ((pe_of_rects c sdM (fun p : Fin 2 × Fin 2 => sdhR p.1 p.2) (fun _ _ => rfl) sd_disj4 sd_cover4).trans (pe_whole c cc0_scratch1).1)
  exact bigSep_mono fun p _ => pe_unsqueeze c (sdM.slice (sdhR p.1 p.2) (fun _ => rfl)) _ squeezes_S1x512x1024_S512x1024

/-! ## The landing buffers -/

theorem rv_disj (p p' : Fin 2 × Fin 3) (h : p ≠ p') : Disjoint (rvR p.2 p.1).set (rvR p'.2 p'.1).set := by
  by_cases h0 : p.1 = p'.1
  · have h1 : p.2.val ≠ p'.2.val := fun e => h (Prod.ext h0 (Fin.ext e))
    exact Rect.unit_disjoint 0 (show p.2.val + 1 ≤ p'.2.val ∨ p'.2.val + 1 ≤ p.2.val by omega)
  · have h1 : p.1.val ≠ p'.1.val := fun e => h0 (Fin.ext e)
    exact Rect.unit_disjoint 1 (show 512 * p.1.val + 512 ≤ 512 * p'.1.val ∨ 512 * p'.1.val + 512 ≤ 512 * p.1.val by omega)
theorem rv_cover : (Finset.univ : Finset (Fin 2 × Fin 3)).biUnion (fun p => (rvR p.2 p.1).set) = Finset.univ := by
  ext i
  refine ⟨fun _ => Finset.mem_univ _, fun _ => Finset.mem_biUnion.mpr ⟨(⟨(i 1).val / 512, half_lt _ (i 1).isLt⟩, i 0), Finset.mem_univ _, Rect.mem_set_unit.mpr fun a => ?_⟩⟩
  match a with
  | 0 => exact ⟨le_refl _, Nat.lt_succ_self _⟩
  | 1 => exact half_mem (i 1).val
  | 2 => exact ⟨Nat.zero_le _, show (i 2).val < 0 + 1024 by rw [Nat.zero_add]; exact (i 2).isLt⟩

theorem rv_split1 (c : Dev nD) (d : Fin 2) : pe (F := F) c (rvM d) ⊢ bigSep Finset.univ fun s : Fin 2 => iprop(pe c (rvP d 0 s) ∗ pe c (rvP d 1 s) ∗ pe c (rvP d 2 s)) := by
  refine (pe_rects c (rvM d) (fun p : Fin 2 × Fin 3 => rvR p.2 p.1) (fun _ _ => rfl) rv_disj rv_cover).trans ?_
  rw [bigSep_univ_prod]
  refine bigSep_mono fun s _ => BIBase.Entails.trans ?_ (Entails.of_eq (three_eq fun h => pe (F := F) c (rvP d h s)))
  exact bigSep_mono fun h _ => pe_squeeze c _ _ _
theorem rv_join1 [∀ e, Nonempty (Elt F e)] (c : Dev nD) (d : Fin 2) : (bigSep Finset.univ fun s : Fin 2 => iprop(pe (F := F) c (rvP d 0 s) ∗ pe c (rvP d 1 s) ∗ pe c (rvP d 2 s))) ⊢ pe (F := F) c (rvM d) := by
  refine BIBase.Entails.trans ?_ (pe_of_rects c (rvM d) (fun p : Fin 2 × Fin 3 => rvR p.2 p.1) (fun _ _ => rfl) rv_disj rv_cover)
  rw [bigSep_univ_prod]
  refine bigSep_mono fun s _ => BIBase.Entails.trans (Entails.of_eq (three_eq fun h => pe (F := F) c (rvP d h s)).symm) ?_
  exact bigSep_mono fun h _ => pe_unsqueeze c ((rvM d).slice (rvR h s) (fun _ => rfl)) _ squeezes_S1x512x1024_S512x1024

/-- The three landing places of a chain. -/
abbrev rv3 (c : Dev nD) (d s : Fin 2) : sProp (MM F) := iprop(pe c (rvP d 0 s) ∗ pe c (rvP d 1 s) ∗ pe c (rvP d 2 s))

theorem rv_split (c : Dev nD) :
    iprop((∃ f : Buf (Elt F) ((c : Thread nD τ).loc cc0_scratch2), (c : Thread nD τ).loc cc0_scratch2 ↦{fullShare} f)
      ∗ ∃ f : Buf (Elt F) ((c : Thread nD τ).loc cc0_scratch3), (c : Thread nD τ).loc cc0_scratch3 ↦{fullShare} f) ⊢ All fun d s => rv3 (F := F) c d s := by
  have h (d : Fin 2) : pe (F := F) c (rvM d) ⊢ iprop(rv3 c d 0 ∗ rv3 c d 1) := (rv_split1 c d).trans (Entails.of_eq (two_eq (rv3 c d)))
  iintro ⟨H2, H3⟩
  ihave H2 := ((pe_whole c cc0_scratch2).2.trans (h 0)) $$ H2
  ihave H3 := ((pe_whole c cc0_scratch3).2.trans (h 1)) $$ H3
  icases H2 with ⟨A, C⟩
  icases H3 with ⟨B, D⟩
  unfold All
  isplitl [A]; · iexact A
  isplitl [B]; · iexact B
  isplitl [C] <;> iassumption
theorem rv_join [∀ e, Nonempty (Elt F e)] (c : Dev nD) : (All fun d s => rv3 (F := F) c d s) ⊢
    iprop((∃ f : Buf (Elt F) ((c : Thread nD τ).loc cc0_scratch2), (c : Thread nD τ).loc cc0_scratch2 ↦{fullShare} f)
      ∗ ∃ f : Buf (Elt F) ((c : Thread nD τ).loc cc0_scratch3), (c : Thread nD τ).loc cc0_scratch3 ↦{fullShare} f) := by
  have h (d : Fin 2) : iprop(rv3 c d 0 ∗ rv3 c d 1) ⊢ pe (F := F) c (rvM d) := (Entails.of_eq (two_eq (rv3 c d)).symm).trans (rv_join1 c d)
  unfold All
  iintro ⟨A, B, C, D⟩
  isplitl [A C]
  · iapply ((h 0).trans (pe_whole c cc0_scratch2).1)
    isplitl [A] <;> iassumption
  · iapply ((h 1).trans (pe_whole c cc0_scratch3).1)
    isplitl [B] <;> iassumption

/-! ## The result -/

/-- The offsets of a chain's four half chunks in the result: its own, and the three that arrive. -/
def o4 (c : Dev nD) (d s : Fin 2) : Fin 4 → Fin 2 → ℕ
  | 0 => oOff c d 0 s
  | 1 => oOff c d 1 s
  | 2 => oOff c d 2 s
  | 3 => oOff (prv c d) d 2 s
theorem o4_inb (c : Dev nD) (d s : Fin 2) : ∀ (h : Fin 4) (a), o4 c d s h a + S512x1024.size a ≤ S8192x1024.size a
  | 0 => oOff_inb c d 0 s
  | 1 => oOff_inb c d 1 s
  | 2 => oOff_inb c d 2 s
  | 3 => oOff_inb (prv c d) d 2 s

abbrev OT : Type := (Fin 2 × Fin 2) × Fin 4
abbrev oo (c : Dev nD) (t : OT) : Fin 2 → ℕ := o4 c t.1.1 t.1.2 t.2
theorem oo_sep : ∀ (c : Dev nD) (t t' : OT), t ≠ t' → oo c t 0 + 512 ≤ oo c t' 0 ∨ oo c t' 0 + 512 ≤ oo c t 0 := by decide +kernel
theorem oo_one : ∀ (c : Dev nD) (t : OT), oo c t 1 = 0 := by decide +kernel
theorem oo_all : ∀ (c : Dev nD) (q : Fin 16), ∃ t : OT, oo c t 0 = 512 * q.val := by decide +kernel
abbrev oR (c : Dev nD) (t : OT) : Rect S8192x1024 := Rect.unit (s := S8192x1024) (oo c t) S512x1024.size (o4_inb c t.1.1 t.1.2 t.2)

/-- The pieces of the result of a chain. -/
abbrev out4 (c : Dev nD) (d s : Fin 2) : sProp (MM F) :=
  iprop(pe c (oS c d 0 s) ∗ pe c (oS c d 1 s) ∗ pe c (oS c d 2 s) ∗ pe c (oS (prv c d) d 2 s))

theorem o_split (c : Dev nD) : pe (F := F) c oM ⊢ All fun d s => out4 (F := F) c d s := by
  rw [← all_eq]
  refine (pe_rects c oM (oR c) (fun _ _ => rfl) (rows_disj (oo c) _ 512 rfl (oo_sep c)) (rows_cover (oo c) _ 512 16 rfl rfl (by decide) rfl (oo_one c) (oo_all c))).trans ?_
  rw [bigSep_univ_prod]
  exact bigSep_mono fun p _ => Entails.of_eq (four_eq fun h => pe (F := F) c (oM.slice (oR c (p, h)) (fun _ => rfl)))

/-- The device whose reduced half chunk is the `h`-th of a chain. -/
def src4 (c : Dev nD) (d : Fin 2) : Fin 4 → Dev nD
  | 0 => c
  | 1 => prv c d
  | 2 => prv (prv c d) d
  | 3 => prv (prv (prv c d) d) d
/-- It lies in the result at the number of the device that follows. -/
theorem o4_eq : ∀ (c : Dev nD) (d s : Fin 2) (h : Fin 4), o4 c d s h 0 = 4096 * d.val + 1024 * (toDev (src4 c d h) d).val + 512 * s.val := by decide +kernel

/-- What every device's result holds: row `r` is row `r % 512` of the half chunk reduced by the device before the chunk's number. -/
def OutV : S8192x1024.Idx → Elt F .bf16 := fun i =>
  Sv m 3 (prv ⟨(i 0).val / 1024 % 4, Nat.mod_lt _ (by decide)⟩ (Fin.ofNat 2 ((i 0).val / 4096))) (Fin.ofNat 2 ((i 0).val / 4096)) (Fin.ofNat 2 ((i 0).val / 512))
    (ValueIdx.ix2 (n0 := 512) (n1 := 1024) ⟨(i 0).val % 512, Nat.mod_lt _ (by decide)⟩ (i 1))

theorem OutV_piece (c : Dev nD) (d s : Fin 2) (h : Fin 4) (j : S512x1024.Idx) :
    OutV m ((oR c ((d, s), h)).emb j) = Sv m 3 (src4 c d h) d s j := by
  obtain ⟨x, y, rfl⟩ : ∃ (x : Fin 512) (y : Fin 1024), j = ValueIdx.ix2 x y := ⟨j 0, j 1, (ValueIdx.eq_ix2 j)⟩
  have e0 : (((oR c ((d, s), h)).emb (ValueIdx.ix2 x y)) 0).val = 4096 * d.val + 1024 * (toDev (src4 c d h) d).val + 512 * s.val + x.val := by
    show o4 c d s h 0 + 1 * x.val = _
    rw [o4_eq, Nat.one_mul]
  have e1 : ((oR c ((d, s), h)).emb (ValueIdx.ix2 x y)) 1 = y := Fin.ext (by
    show o4 c d s h 1 + 1 * y.val = y.val
    rw [show o4 c d s h 1 = 0 from oo_one c ((d, s), h)]; omega)
  have hk : (toDev (src4 c d h) d).val < 4 := (toDev (src4 c d h) d).isLt
  have hx := x.isLt
  have hs := s.isLt
  have hd := d.isLt
  unfold OutV
  have f1 : (Fin.ofNat 2 ((((oR c ((d, s), h)).emb (ValueIdx.ix2 x y)) 0).val / 4096)) = d := Fin.ext (by
    show _ % 2 = _
    rw [e0]; omega)
  have f2 : (Fin.ofNat 2 ((((oR c ((d, s), h)).emb (ValueIdx.ix2 x y)) 0).val / 512)) = s := Fin.ext (by
    show _ % 2 = _
    rw [e0]; omega)
  have f3 : (⟨(((oR c ((d, s), h)).emb (ValueIdx.ix2 x y)) 0).val / 1024 % 4, Nat.mod_lt _ (by decide)⟩ : Dev nD) = toDev (src4 c d h) d := Fin.ext (by
    show _ % 4 = _
    rw [e0]; omega)
  have f4 : (⟨(((oR c ((d, s), h)).emb (ValueIdx.ix2 x y)) 0).val % 512, Nat.mod_lt _ (by decide)⟩ : Fin 512) = x := Fin.ext (by
    show _ % 512 = _
    rw [e0]; omega)
  rw [f1, f2, f3, f4, e1, prv_to]

theorem o_join [∀ e, Nonempty (Elt F e)] (c : Dev nD) :
    (All fun d s => iprop(pc c (oS c d 0 s) (Gv m 0 c d s) ∗ pc c (oS c d 1 s) (Gv m 1 c d s) ∗ pc c (oS c d 2 s) (Gv m 2 c d s) ∗ pc c (oS (prv c d) d 2 s) (Gv m 3 c d s)))
      ⊢ pc c oM (OutV m) := by
  rw [← all_eq]
  refine BIBase.Entails.trans ?_ (owns_of_rects (Ix := Unit) (Name := ℕ) (U := UU) (Lvl := ℕ) (c : Thread nD τ) oM fullShare (oR c) (fun _ _ => rfl) (rows_disj (oo c) _ 512 rfl (oo_sep c)) (rows_cover (oo c) _ 512 16 rfl rfl (by decide) rfl (oo_one c) (oo_all c)) (OutV m))
  refine BIBase.Entails.trans ?_ (Entails.of_eq (bigSep_univ_prod fun t : OT => pc (F := F) c (oM.slice (oR c t) (fun _ => rfl)) (fun j => OutV m ((oR c t).emb j))).symm)
  refine bigSep_mono fun p _ => ?_
  refine BIBase.Entails.trans ?_ (Entails.of_eq (four_eq fun h => pc (F := F) c (oM.slice (oR c (p, h)) (fun _ => rfl)) (fun j => OutV m ((oR c (p, h)).emb j))).symm)
  have e (h : Fin 4) : (fun j => OutV m ((oR c (p, h)).emb j)) = Sv m 3 (src4 c p.1 h) p.1 p.2 := funext fun j => OutV_piece m c p.1 p.2 h j
  rw [e 0, e 1, e 2, e 3]
  exact .rfl

end Cert.KernelIdeal.Ring

end
-- ==== Proof.Ghost.lean ====
/-
# The launch's ghost state

The tokens, positions and credits that the launch deals the cores, and the invariants of their cells.
-/
module

public import proofs.«01_k».proof.Proof.Pieces

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

theorem unit_eq (f : Unit → sProp (MM F)) : (bigSep Finset.univ f) = f () := bigSep_univ_eq_bigSepL [()] (by decide) (by decide) f

/-! ## The copy cells in two families -/

/-- A transfer: phase and hop, direction and half. -/
abbrev YK : Type := (Fin 2 × Fin 3) × (Fin 2 × Fin 2)
/-- The key of the semaphore on which it completes at its sender, -/
abbrev sntK (y : YK) : XK := (y.2, (y.1.2, snt y.1.1))
/-- and of the one on which it arrives. -/
abbrev arrK (y : YK) : XK := (y.2, (y.1.2, arr y.1.1))

def pairK : YK ⊕ YK → XK := Sum.elim sntK arrK
theorem pairK_bij : Function.Bijective pairK :=
  ⟨(by decide +kernel : ∀ a b : YK ⊕ YK, pairK a = pairK b → a = b), (by decide +kernel : ∀ k : XK, ∃ a, pairK a = k)⟩

/-- All copy cells are those of the sends and those of the arrivals. -/
theorem x_pair (Φ : XK → sProp (MM F)) :
    bigSep Finset.univ Φ = iprop((bigSep Finset.univ fun y : YK => Φ (sntK y)) ∗ bigSep Finset.univ fun y : YK => Φ (arrK y)) := by
  rw [bigSep_univ_equiv (Equiv.ofBijective pairK pairK_bij) Φ, BI.bigSep_univ_sum]
  rfl

/-- Transfers one phase and hop at a time. -/
theorem y_all (f : Fin 2 → Fin 2 → Fin 3 → Fin 2 → sProp (MM F)) :
    (bigSep Finset.univ fun y : YK => f y.1.1 y.2.1 y.1.2 y.2.2)
      = iprop(((All fun d s => f 0 d 0 s) ∗ (All fun d s => f 0 d 1 s) ∗ All fun d s => f 0 d 2 s)
        ∗ (All fun d s => f 1 d 0 s) ∗ (All fun d s => f 1 d 1 s) ∗ All fun d s => f 1 d 2 s) := by
  rw [bigSep_univ_prod, bigSep_univ_prod, two_eq, three_eq, three_eq]
  simp only [← all_eq]

theorem kits_eq (c : Dev nD) : kits (F := F) c = bigSep Finset.univ fun y : YK => kit c y.1.1 y.2.1 y.1.2 y.2.2 :=
  (y_all fun p d h s => kit (F := F) c p d h s).symm

/-! ## The duty tokens -/

/-- A core's duties: its entry semaphore's two, two rounds of each fetch semaphore, and one of each copy semaphore. -/
abbrev TK : Type := Fin 2 ⊕ ((FK × Fin 2) ⊕ XK)
def tkey : TK → CK
  | .inl _ => .inl ()
  | .inr (.inl (k, _)) => .inr (.inl k)
  | .inr (.inr k) => .inr (.inr k)
def trd : TK → ℕ
  | .inl _ => 0
  | .inr (.inl (_, r)) => r.val
  | .inr (.inr _) => 0
def tdu : TK → Fin 2
  | .inl d => d
  | .inr (.inl _) => 0
  | .inr (.inr _) => 0
theorem tparts_inj : ∀ t t' : TK, tkey t = tkey t' → trd t = trd t' → tdu t = tdu t' → t = t' := by decide +kernel

abbrev tokOf (x : Dev nD × TK) : GSem nD τ sig × ℕ × Fin 2 := (kcell (x.1, tkey x.2), trd x.2, tdu x.2)
theorem tokOf_injective : Function.Injective tokOf := by
  rintro ⟨c, t⟩ ⟨c', t'⟩ h
  have h1 := kcell_injective (congrArg (fun x : GSem nD τ sig × ℕ × Fin 2 => x.1) h)
  have h2 := congrArg (fun x : GSem nD τ sig × ℕ × Fin 2 => x.2.1) h
  have h3 := congrArg (fun x : GSem nD τ sig × ℕ × Fin 2 => x.2.2) h
  have e1 : c = c' := congrArg Prod.fst h1
  have e2 : t = t' := tparts_inj t t' (congrArg Prod.snd h1) h2 h3
  rw [e1, e2]

/-- The device whose duty a core pays. -/
def payer : TK → (Dev nD ≃ Dev nD)
  | .inl d => (ring d).symm
  | .inr (.inl _) => Equiv.refl _
  | .inr (.inr ((d, _), (_, f))) => if f = 1 ∨ f = 3 then ring d else Equiv.refl _

abbrev tok (x : Dev nD × TK) : sProp (MM F) := dutyTok ER (kcell (x.1, tkey x.2)) (trd x.2) (tdu x.2)
/-- The tokens of a core's own cells. -/
def toks (c : Dev nD) : sProp (MM F) := bigSep Finset.univ fun t : TK => tok (c, t)
/-- The tokens of the duties it pays. -/
def payToks (c : Dev nD) : sProp (MM F) := bigSep Finset.univ fun t : TK => tok (payer t c, t)

/-- The tokens dealt to their payers. -/
theorem toks_deal : (bigSep Finset.univ fun c : Dev nD => toks (F := F) c) = bigSep Finset.univ fun c : Dev nD => payToks c := by
  unfold toks payToks
  rw [Pipeline.bigSep_univ_comm fun (c : Dev nD) (t : TK) => tok (F := F) (c, t),
    Pipeline.bigSep_univ_comm fun (c : Dev nD) (t : TK) => tok (F := F) (payer t c, t)]
  exact bigSep_congr fun t _ => bigSep_univ_equiv (payer t) fun c : Dev nD => tok (F := F) (c, t)

/-! ## The launch's ghost state -/

def ringCells : Finset (GSem nD τ sig) := Finset.univ.map ⟨kcell, kcell_injective⟩
def ringToks : Finset (GSem nD τ sig × ℕ × Fin 2) := Finset.univ.map ⟨tokOf, tokOf_injective⟩

def u₀ : UU := (initOf (Pipeline.cells cfgs cellOf_inj) (Pipeline.launchToks cfgs cellOf_inj), initOf ringCells ringToks)

/-- A core's positions at its cells. -/
def poss (c : Dev nD) : sProp (MM F) := bigSep Finset.univ fun k : CK => atPos ER (kcell (c, k)) 0 ∅ 0

/-- What the launch deals a core. -/
def G (c : Dev nD) : sProp (MM F) :=
  iprop((bigSep Finset.univ fun k : CK => roundState ER (Rd m) (kcell (c, k)) 0)
    ∗ (poss c ∗ bigSep Finset.univ fun k : CK => reached ER (kcell (c, k)) 0) ∗ toks c)

/-- The invariants and the first rounds, without the levels. -/
def marks (K : Dev nD × CK → ℕ) : sProp (MM F) :=
  bigSep Finset.univ fun ck : Dev nD × CK => iprop(cellInv ER (Rd m) (K ck) (kcell ck) ∗ reached ER (kcell ck) 0)
instance marks_persistent (K : Dev nD × CK → ℕ) : BI.Persistent (marks (F := F) m K) := by unfold marks; infer_instance

/-- What it has before its body. -/
def G' (c : Dev nD) : sProp (MM F) := iprop(∃ K, marks m K ∗ poss c ∗ payToks c)

theorem fund_ring : BI.own (ER (F := F) (initOf ringCells ringToks)) ⊢ (|==> bigSep Finset.univ (G (F := F) m) : sProp (MM F)) := by
  have hX (Φ : GSem nD τ sig → sProp (MM F)) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp (MM F))) = bigSep Finset.univ fun c : Dev nD => toks c := by
    unfold ringToks toks; rw [bigSep_map, bigSep_univ_prod]; rfl
  iintro HX
  imod (Rounds.fund ER (Rd (F := F) m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hat Hr]
  · isplitl [Hat] <;> iassumption
  iexact Htok

/-- The kernel's own semaphores at zero. -/
abbrev own0 (c : Dev nD) : sProp (MM F) := Pipeline.ownSems0 (Ix := Unit) (Name := ℕ) (U := UU) (Lvl := ℕ) (Val := Elt F) (τ := τ) osem c

theorem own0_eq (c : Dev nD) : own0 (F := F) c = bigSep Finset.univ fun k : OK => semVal (kcell (c, .inr k)) 0 := rfl
theorem unscopedSems0_eq (c : Dev nD) : (unscopedSems0 c : sProp (MM F)) = semVal (barC c) 0 := by
  unfold unscopedSems0; rw [bigSep_eq_bigSepL_of_eq [SemLoc.reg barS] (by decide) (by decide)]; rfl

/-- All cells of a core at zero. -/
theorem sems0_eq (c : Dev nD) : iprop(own0 (F := F) c ∗ unscopedSems0 c) ⊢ (bigSep Finset.univ fun k : CK => semVal (kcell (c, k)) 0) := by
  rw [own0_eq, unscopedSems0_eq, BI.bigSep_univ_sum (fun k : CK => (semVal (kcell (c, k)) 0 : sProp (MM F))), unit_eq]
  show iprop(own0 c ∗ semVal (barC c) 0) ⊢ iprop(semVal (kcell (c, .inl ())) 0 ∗ own0 c)
  iintro ⟨A, B⟩
  isplitl [B]; · iexact B
  iexact A

theorem core_alloc (c : Dev nD) :
    iprop(own0 (F := F) c ∗ unscopedSems0 c ∗ G m c)
      ⊢ |={Set.univ}=> iprop((bigSep Finset.univ fun k : CK => iprop(∃ κ : ℕ, cellInv ER (Rd m) κ (kcell (c, k))))
          ∗ (poss c ∗ bigSep Finset.univ fun k : CK => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp (MM F)) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : CK => iprop(∃ κ : ℕ, cellInv ER (Rd (F := F) m) κ (kcell (c, k))))
          ∗ (poss c ∗ bigSep Finset.univ fun k : CK => reached ER (kcell (c, k)) 0) ∗ toks c) : sProp (MM F))
      ⊢ bigSep Finset.univ (G' m) := by
  rw [bigSep_sep', bigSep_sep', bigSep_sep', toks_deal, ← bigSep_univ_prod (fun ck : Dev nD × CK => iprop(∃ κ : ℕ, cellInv ER (Rd (F := F) m) κ (kcell ck))),
    ← bigSep_univ_prod (fun ck : Dev nD × CK => (reached ER (kcell ck) 0 : sProp (MM F)))]
  iintro ⟨HI, ⟨Hat, HR⟩, Htok⟩
  ihave HK := (BI.bigSep_exists_pi Finset.univ (fun (ck : Dev nD × CK) (κ : ℕ) => (cellInv ER (Rd m) κ (kcell ck) : sProp (MM F)))) $$ HI
  icases HK with ⟨%K, HI⟩
  ihave #HM := (show iprop((bigSep Finset.univ fun ck : Dev nD × CK => cellInv ER (Rd m) (K ck) (kcell ck)) ∗ bigSep Finset.univ fun ck : Dev nD × CK => reached ER (kcell ck) 0) ⊢ marks (F := F) m K from
    Entails.of_eq (bigSep_sep' _ _ _).symm) $$ [HI HR]
  · isplitl [HI] <;> iassumption
  iapply (show iprop(marks (F := F) m K ∗ (bigSep Finset.univ fun c : Dev nD => iprop(poss (F := F) c ∗ payToks c))) ⊢ bigSep Finset.univ (G' m) from
    (sep_mono_left (BI.bigSep_of_persistent Finset.univ (marks (F := F) m K))).trans (by
      rw [← bigSep_sep']
      refine bigSep_mono fun c _ => ?_
      show iprop(marks (F := F) m K ∗ poss c ∗ payToks c) ⊢ G' m c
      unfold G'
      iintro H
      iexists K
      iexact H))
  isplitr
  · iexact HM
  · iapply (Entails.of_eq (bigSep_sep' Finset.univ (fun c : Dev nD => poss (F := F) c) payToks).symm)
    isplitl [Hat] <;> iassumption

/-- The set-up of every core's cells at once. -/
theorem glob : (bigSep Finset.univ fun c => iprop(own0 (F := F) c ∗ unscopedSems0 c ∗ G m c) : sProp (MM F)) ⊢ |={Set.univ}=> bigSep Finset.univ (G' m) :=
  ((bigSep_mono fun c _ => core_alloc m c).trans (bigSep_fupd _ _)).trans (BI.fupd_mono (regroup m))

/-! ## The launch's credits -/

/-- What a core owes a cell for a list of operations: as often as they pay it. -/
theorem oweL_at (d c : Dev nD) (k : CK) : ∀ os : List Ob, oweL d os (kcell (c, k)) () = (os.countP fun o => decide (obCell d o = (c, k))) * amountK k
  | [] => by rw [List.countP_nil, Nat.zero_mul]; rfl
  | o :: os => by
    show (oweL d os + obTally d o) (kcell (c, k)) () = _
    rw [Pi.add_apply, Finsupp.add_apply, oweL_at d c k os, List.countP_cons, Nat.add_mul]
    congr 1
    unfold obTally
    rw [tallyAt_apply]
    by_cases h : obCell d o = (c, k)
    · rw [if_pos ⟨by rw [h], rfl⟩, if_pos (by rw [decide_eq_true_eq]; exact h), h, Nat.one_mul]
    · rw [if_neg (fun x => h (kcell_injective x.1).symm), if_neg (by rw [decide_eq_true_eq]; exact h), Nat.zero_mul]

/-- The cells that other cores pay. -/
abbrev PK : Type := Unit ⊕ YK
def pkey : PK → CK
  | .inl _ => .inl ()
  | .inr y => .inr (.inr (arrK y))
def pcount : PK → ℕ
  | .inl _ => 2
  | .inr _ => 1
theorem pkey_injective : Function.Injective pkey := (by decide +kernel : ∀ a b : PK, pkey a = pkey b → a = b)
theorem paid : ∀ (c : Dev nD) (z : PK), (∑ d : Dev nD, obls.countP fun o => decide (obCell d o = (c, pkey z))) = pcount z := by decide +kernel

theorem launch_at (c : Dev nD) (z : PK) :
    tallyOn (kcell (c, pkey z)) (launchCredit (Pipeline.owing fun d => owing d 0) 0 (kcell (c, pkey z)))
      = (tallyAt (kcell (c, pkey z)) () (pcount z * amountK (pkey z)) : CellTallies nD τ sig Unit) := by
  unfold tallyAt; refine congrArg _ (Finsupp.ext fun u => ?_); cases u
  rw [Pipeline.launchCredit_owing, Finsupp.single_eq_same, ← paid c z, Finset.sum_mul]
  exact Finset.sum_congr rfl fun d _ => oweL_at d c (pkey z) obls

/-- A core's credits at launch. -/
def creds (c : Dev nD) : sProp (MM F) :=
  iprop(cred (tallyAt (barC c) () 2) ∗ bigSep Finset.univ fun y : YK => cred (tallyAt (xC c (arr y.1.1) y.2.1 y.1.2 y.2.2) () NX))

theorem creds_intro (c : Dev nD) : (Pipeline.launchCred (fun d => owing d 0) c : sProp (MM F)) ⊢ creds c := by
  unfold Pipeline.launchCred
  refine (bigSep_subset (t := Finset.univ.map ⟨fun z : PK => csem (pkey z), fun a b h => pkey_injective (csem_injective h)⟩) (Finset.subset_univ _)).trans ?_
  rw [bigSep_map]
  refine (Entails.of_eq (bigSep_congr fun z _ => congrArg cred (launch_at c z))).trans ?_
  rw [BI.bigSep_univ_sum, unit_eq]
  unfold creds
  refine (show iprop(cred (tallyAt (barC c) () (2 * 1)) ∗ bigSep Finset.univ fun y : YK => cred (tallyAt (xC c (arr y.1.1) y.2.1 y.1.2 y.2.2) () (1 * NX)))
    ⊢ iprop(cred (tallyAt (barC c) () 2) ∗ bigSep Finset.univ fun y : YK => (cred (tallyAt (xC c (arr y.1.1) y.2.1 y.1.2 y.2.2) () NX) : sProp (MM F))) from ?_)
  rw [Nat.one_mul]

end Cert.KernelIdeal.Ring

end
-- ==== Proof.Ends.lean ====
/-
# Into and out of the body

What a core has at launch, taken apart into what its body starts from, and what the body leaves, put together again.
-/
module

public import proofs.«01_k».proof.Proof.Ghost

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × CK → ℕ)

/-- The argument's shard, whole. -/
abbrev xW (c : Dev nD) : sProp (MM F) := (c : Thread nD τ).loc main_arg0 ↦{fullShare} m ((c : Thread nD τ).loc main_arg0)
/-- The kernel's scratch buffers at any contents. -/
abbrev scr (c : Dev nD) : sProp (MM F) := Pipeline.scopedRest (Ix := Unit) (Name := ℕ) (U := UU) (Lvl := ℕ) (Val := Elt F) cfg0.spec c

/-! ## The ghost state, cell by cell -/

theorem poss_split (c : Dev nD) : poss (F := F) c ⊢ iprop(atPos ER (barC c) 0 ∅ 0 ∗ (All fun d sl => atPos ER (fC c d sl) 0 ∅ 0)
    ∗ (bigSep Finset.univ fun y : YK => atPos ER (xC c (snt y.1.1) y.2.1 y.1.2 y.2.2) 0 ∅ 0)
    ∗ bigSep Finset.univ fun y : YK => atPos ER (xC c (arr y.1.1) y.2.1 y.1.2 y.2.2) 0 ∅ 0) := by
  unfold poss
  rw [BI.bigSep_univ_sum, BI.bigSep_univ_sum, unit_eq, x_pair, ← all_eq]
  exact .rfl

theorem payer_snt (d s : Fin 2) (h : Fin 3) : ∀ p : Fin 2, payer (.inr (.inr ((d, s), (h, snt p)))) = Equiv.refl _
  | 0 | 1 => by unfold payer; exact if_neg (by decide)
theorem payer_arr (d s : Fin 2) (h : Fin 3) : ∀ p : Fin 2, payer (.inr (.inr ((d, s), (h, arr p)))) = ring d
  | 0 | 1 => by unfold payer; exact if_pos (by decide)

theorem payToks_split (c : Dev nD) : payToks (F := F) c ⊢ iprop((dutyTok ER (barC (prv c 0)) 0 0 ∗ dutyTok ER (barC (prv c 1)) 0 1)
    ∗ (All fun d sl => iprop(dutyTok ER (fC c d sl) 0 0 ∗ dutyTok ER (fC c d sl) 1 0))
    ∗ (bigSep Finset.univ fun y : YK => dutyTok ER (xC c (snt y.1.1) y.2.1 y.1.2 y.2.2) 0 0)
    ∗ bigSep Finset.univ fun y : YK => dutyTok ER (xC (toDev c y.2.1) (arr y.1.1) y.2.1 y.1.2 y.2.2) 0 0) := by
  unfold payToks
  have h1 (y : YK) : tok (F := F) (payer (.inr (.inr (sntK y))) c, .inr (.inr (sntK y))) = dutyTok ER (xC c (snt y.1.1) y.2.1 y.1.2 y.2.2) 0 0 := by
    rw [payer_snt]; rfl
  have h2 (y : YK) : tok (F := F) (payer (.inr (.inr (arrK y))) c, .inr (.inr (arrK y))) = dutyTok ER (xC (toDev c y.2.1) (arr y.1.1) y.2.1 y.1.2 y.2.2) 0 0 := by
    rw [payer_arr]; rfl
  have h3 (k : FK) : (bigSep Finset.univ fun r : Fin 2 => tok (F := F) (payer (.inr (.inl (k, r))) c, .inr (.inl (k, r))))
      = iprop(dutyTok ER (fC c k.1 k.2) 0 0 ∗ dutyTok ER (fC c k.1 k.2) 1 0) := by rw [two_eq]; rfl
  rw [BI.bigSep_univ_sum, BI.bigSep_univ_sum, two_eq, x_pair, bigSep_univ_prod, bigSep_congr fun k _ => h3 k, bigSep_congr fun y _ => h1 y, bigSep_congr fun y _ => h2 y,
    ← all_eq]
  exact .rfl

/-- All transfers' holdings. -/
theorem kits_intro (c : Dev nD) :
    iprop((bigSep Finset.univ fun y : YK => dutyTok ER (xC c (snt y.1.1) y.2.1 y.1.2 y.2.2) 0 0)
      ∗ (bigSep Finset.univ fun y : YK => dutyTok ER (xC (toDev c y.2.1) (arr y.1.1) y.2.1 y.1.2 y.2.2) 0 0)
      ∗ (bigSep Finset.univ fun y : YK => atPos ER (xC c (snt y.1.1) y.2.1 y.1.2 y.2.2) 0 ∅ 0)
      ∗ (bigSep Finset.univ fun y : YK => cred (tallyAt (xC c (arr y.1.1) y.2.1 y.1.2 y.2.2) () NX))
      ∗ bigSep Finset.univ fun y : YK => atPos ER (xC c (arr y.1.1) y.2.1 y.1.2 y.2.2) 0 ∅ 0) ⊢ kits (F := F) c := by
  rw [kits_eq, ← bigSep_sep', ← bigSep_sep', ← bigSep_sep', ← bigSep_sep']
  exact .rfl

/-! ## Into the body -/

/-- The landing places a core hands over are its own. -/
theorem zone_eq (c : Dev nD) (d s : Fin 2) :
    zone (F := F) (prv c d) d s = iprop(rv3 c d s ∗ pe c (oS (prv c d) d 0 s) ∗ pe c (oS (prv c d) d 1 s) ∗ pe c (oS (prv c d) d 2 s)) := by
  unfold zone
  rw [to_prv]

theorem zones (c : Dev nD) : iprop((All fun d s => rv3 (F := F) c d s) ∗ All fun d s => out4 c d s)
    ⊢ iprop((barPay (prv c 0) 0 ∗ barPay (prv c 1) 1) ∗ All fun d s => pe c (oS c d 0 s)) := by
  have h (d s : Fin 2) : iprop(rv3 (F := F) c d s ∗ out4 c d s) ⊢ iprop(zone (prv c d) d s ∗ pe c (oS c d 0 s)) := by
    rw [zone_eq, oS_next1, oS_next2]
    iintro ⟨A, B0, B⟩
    isplitr [B0]
    · isplitl [A] <;> iassumption
    · iexact B0
  iintro ⟨A, B⟩
  ihave H := (all_sep (fun d s => rv3 (F := F) c d s) fun d s => out4 c d s) $$ [A B]
  · isplitl [A] <;> iassumption
  ihave H := (all_mono h) $$ H
  ihave H := (all_unsep (fun d s => zone (F := F) (prv c d) d s) fun d s => pe c (oS c d 0 s)) $$ H
  icases H with ⟨Z, O⟩
  isplitl [Z]
  · ihave Z := (show (All fun d s => zone (F := F) (prv c d) d s) ⊢ iprop(zone (prv c 0) 0 0 ∗ zone (prv c 1) 1 0 ∗ zone (prv c 0) 0 1 ∗ zone (prv c 1) 1 1) from .rfl) $$ Z
    icases Z with ⟨A, B, C, D⟩
    unfold barPay
    isplitl [A C]
    · isplitl [A] <;> iassumption
    · isplitl [B] <;> iassumption
  · iexact O

/-- What the launch and the region give a core is what its body starts from. -/
theorem enter (c : Dev nD) :
    iprop(records m K ∗ owesN c 0 ∗ (poss c ∗ payToks c ∗ creds c) ∗ xW m c ∗ scr c ∗ pe c oM) ⊢ bodyIn m K c := by
  unfold creds
  rw [show scr (F := F) c = _ from scopedRest0_eq c]
  iintro ⟨Hrec, HO, ⟨Hp, Ht, Hc, Hcs⟩, Hx, ⟨S0, S1, S2, S3⟩, Ho⟩
  ihave Hp := (poss_split (F := F) c) $$ Hp
  icases Hp with ⟨PB, PF, PS, PA⟩
  ihave Ht := (payToks_split (F := F) c) $$ Ht
  icases Ht with ⟨⟨TB0, TB1⟩, TF, TS, TA⟩
  ihave Hx := (x_split m c) $$ Hx
  ihave S0 := (st_split (F := F) c) $$ S0
  ihave S1 := (sd_split (F := F) c) $$ S1
  ihave S2 := (rv_split (F := F) c) $$ [S2 S3]
  · isplitl [S2] <;> iassumption
  ihave Ho := (o_split (F := F) c) $$ Ho
  ihave Z := (zones (F := F) c) $$ [S2 Ho]
  · isplitl [S2] <;> iassumption
  icases Z with ⟨⟨Z0, Z1⟩, Ho⟩
  unfold bodyIn handIn
  isplitl [Hrec HO]
  · isplitl [Hrec] <;> iassumption
  isplitl [TB0 TB1 Z0 Z1 Hc PB]
  · isplitl [TB0 Z0]
    · isplitl [TB0] <;> iassumption
    isplitl [TB1 Z1]
    · isplitl [TB1] <;> iassumption
    isplitl [Hc] <;> iassumption
  isplitl [PF TF Hx]
  · ihave H := (all_sep (fun d sl => iprop(dutyTok ER (fC c d sl) 0 0 ∗ dutyTok ER (fC c d sl) 1 0))
      (fun d sl => iprop(pc c (xS c d (ch sl 0)) (XC m c d (ch sl 0)) ∗ pc c (xS c d (ch sl 1)) (XC m c d (ch sl 1))))) $$ [TF Hx]
    · isplitl [TF] <;> iassumption
    ihave H := (all_sep (fun d sl => atPos ER (fC c d sl) 0 ∅ 0) _) $$ [PF H]
    · isplitl [PF]; · iexact PF
      iexact H
    iapply (show (All fun d sl => iprop(atPos ER (fC c d sl) 0 ∅ 0 ∗ (dutyTok ER (fC c d sl) 0 0 ∗ dutyTok ER (fC c d sl) 1 0)
        ∗ pc c (xS c d (ch sl 0)) (XC m c d (ch sl 0)) ∗ pc c (xS c d (ch sl 1)) (XC m c d (ch sl 1)))) ⊢ All fun d sl => FS m c d sl 0 from
      all_mono fun d sl => by
        unfold FS
        iintro ⟨A, ⟨B, C⟩, D⟩
        isplitl [A]; · iexact A
        isplitl [B]; · iexact B
        isplitl [C]; · iexact C
        iexact D)
    iexact H
  isplitl [S0]; · iexact S0
  isplitl [S1]; · iexact S1
  isplitl [TS TA PS Hcs PA]
  · iapply (kits_intro (F := F) c)
    isplitl [TS]; · iexact TS
    isplitl [TA]; · iexact TA
    isplitl [PS]; · iexact PS
    isplitl [Hcs] <;> iassumption
  iexact Ho

/-! ## Out of the body -/

/-- The transfers at their end: their semaphores at zero, and what was sent. -/
theorem ended (c : Dev nD) :
    iprop((T m c 0 0 3 ∗ T m c 0 1 3 ∗ T m c 0 2 3) ∗ T m c 1 0 3 ∗ T m c 1 1 3 ∗ T m c 1 2 3)
      ⊢ iprop((bigSep Finset.univ fun k : XK => semVal (kcell (c, .inr (.inr k))) 0)
        ∗ ((All fun d s => pc c (sdP d s) (Sv m 0 c d s)) ∗ (All fun d s => pc c (rvP d 0 s) (Sv m 1 c d s)) ∗ All fun d s => pc c (rvP d 1 s) (Sv m 2 c d s))
        ∗ (All fun d s => pc c (oS c d 0 s) (Gv m 0 c d s)) ∗ (All fun d s => pc c (oS c d 1 s) (Gv m 1 c d s)) ∗ All fun d s => pc c (oS c d 2 s) (Gv m 2 c d s)) := by
  refine (Entails.of_eq (y_all fun p d h s => tr m c p d h s 3).symm).trans ?_
  refine (show (bigSep Finset.univ fun y : YK => tr m c y.1.1 y.2.1 y.1.2 y.2.2 3) ⊢ bigSep Finset.univ fun y : YK =>
    iprop(semVal (kcell (c, .inr (.inr (sntK y)))) 0 ∗ semVal (kcell (c, .inr (.inr (arrK y)))) 0 ∗ xferPay m c (snt y.1.1) y.2.1 y.1.2 y.2.2) from .rfl).trans ?_
  rw [bigSep_sep', bigSep_sep', x_pair]
  refine BIBase.Entails.trans ?_ (show iprop(((bigSep Finset.univ fun y : YK => semVal (kcell (c, .inr (.inr (sntK y)))) 0)
    ∗ bigSep Finset.univ fun y : YK => semVal (kcell (c, .inr (.inr (arrK y)))) 0) ∗ bigSep Finset.univ fun y : YK => xferPay m c (snt y.1.1) y.2.1 y.1.2 y.2.2) ⊢ _ from
    by rw [y_all fun p d h s => xferPay m c (snt p) d h s]; exact .rfl)
  iintro ⟨A, B, C⟩
  isplitl [A B]
  · isplitl [A] <;> iassumption
  · iexact C

/-- What the body leaves is what the region and the launch take back. -/
theorem leave [∀ e, Nonempty (Elt F e)] (c : Dev nD) :
    bodyOut m c ⊢ iprop(owesN c 26 ∗ semVal (barC c) 0 ∗ own0 c ∗ xW m c ∗ scr c ∗ pc c oM (OutV m)) := by
  unfold bodyOut
  rw [show scr (F := F) c = _ from scopedRest0_eq c]
  iintro ⟨HO, HB, HF, HS, HT, HR, HG⟩
  ihave HF := (show (All fun d sl => FS m c d sl 4) ⊢ All fun d sl => iprop(semVal (fC c d sl) 0 ∗ pc c (xS c d (ch sl 0)) (XC m c d (ch sl 0)) ∗ pc c (xS c d (ch sl 1)) (XC m c d (ch sl 1))) from .rfl) $$ HF
  ihave HF := (all_unsep (fun d sl => (semVal (fC c d sl) 0 : sProp (MM F))) _) $$ HF
  icases HF with ⟨F0, X0⟩
  ihave X0 := (x_join m c) $$ X0
  ihave HT := (ended m c) $$ HT
  icases HT with ⟨V0, ⟨P0, P1, P2⟩, Q0, Q1, Q2⟩
  isplitl [HO]; · iexact HO
  isplitl [HB]; · iexact HB
  isplitl [F0 V0]
  · iapply (show iprop((All fun d sl => semVal (fC c d sl) 0) ∗ bigSep Finset.univ fun k : XK => semVal (kcell (c, .inr (.inr k))) 0) ⊢ own0 (F := F) c from by
      rw [own0_eq, BI.bigSep_univ_sum, ← all_eq]; exact .rfl)
    isplitl [F0] <;> iassumption
  isplitl [X0]; · iexact X0
  isplitl [HS P0 P1 P2 HR]
  · isplitl [HS]; · iapply (st_join (F := F) c); iexact HS
    isplitl [P0]
    · iapply (sd_join (F := F) c)
      iapply (show (All fun d s => pc c (sdP d s) (Sv m 0 c d s)) ⊢ All fun d s => pe c (sdP d s) from all_mono fun d s => by iintro H; iexists _; iexact H)
      iexact P0
    iapply (rv_join (F := F) c)
    ihave P0 := (show (All fun d s => pc c (rvP d 0 s) (Sv m 1 c d s)) ⊢ All fun d s => pe c (rvP d 0 s) from all_mono fun d s => by iintro H; iexists _; iexact H) $$ P1
    ihave P1 := (show (All fun d s => pc c (rvP d 1 s) (Sv m 2 c d s)) ⊢ All fun d s => pe c (rvP d 1 s) from all_mono fun d s => by iintro H; iexists _; iexact H) $$ P2
    iapply (all_sep (fun d s => pe (F := F) c (rvP d 0 s)) fun d s => iprop(pe c (rvP d 1 s) ∗ pe c (rvP d 2 s)))
    isplitl [P0]; · iexact P0
    iapply (all_sep (fun d s => pe (F := F) c (rvP d 1 s)) fun d s => pe c (rvP d 2 s))
    isplitl [P1] <;> iassumption
  · iapply (o_join m c)
    iapply (all_sep (fun d s => pc c (oS c d 0 s) (Gv m 0 c d s)) fun d s => iprop(pc c (oS c d 1 s) (Gv m 1 c d s) ∗ pc c (oS c d 2 s) (Gv m 2 c d s) ∗ pc c (oS (prv c d) d 2 s) (Gv m 3 c d s)))
    isplitl [Q0]; · iexact Q0
    iapply (all_sep (fun d s => pc c (oS c d 1 s) (Gv m 1 c d s)) fun d s => iprop(pc c (oS c d 2 s) (Gv m 2 c d s) ∗ pc c (oS (prv c d) d 2 s) (Gv m 3 c d s)))
    isplitl [Q1]; · iexact Q1
    iapply (all_sep (fun d s => pc c (oS c d 2 s) (Gv m 2 c d s)) fun d s => pc c (oS (prv c d) d 2 s) (Gv m 3 c d s))
    isplitl [Q2] <;> iassumption

end Cert.KernelIdeal.Ring

end
-- ==== Proof.ProgEq.lean ====
/-
# The printed body is the sequence of steps
-/
module

public import proofs.«01_k».proof.Proof.Prog

@[expose] public section

set_option maxRecDepth 65536

noncomputable section

namespace Cert.KernelIdeal.Ring

open Cert.KernelIdeal Cert.KernelIdeal.Gen
open Idealize.ShloMosaic Idealize.ShloMosaic.TcCoe
open Idealize.SL.Sem

variable {F : FTy → Type} [FloatOps F]

set_option maxHeartbeats 4000000 in
/-- The printed body, on the region's buffers and semaphores, is the sequence of steps. -/
theorem body_eq : cc0_body (F := F) xM (Memref.isWhole_whole _) oM (Memref.isWhole_whole _) stM (Memref.isWhole_whole _) sdM (Memref.isWhole_whole _)
    (Memref.whole cc0_scratch2) (Memref.isWhole_whole _) (Memref.whole cc0_scratch3) (Memref.isWhole_whole _)
    cc0_scratch4 cc0_scratch5 cc0_scratch6 cc0_scratch7 cc0_scratch8 = body := by
  rw [cc0_body_eq_skeleton]
  rfl

end Cert.KernelIdeal.Ring

end
-- ==== Proof.Launch.lean ====
/-
# The launch

The four cores' programs run together: the region's data, the launch's conditions, and what every run ends with.
-/
module

public import proofs.«01_k».proof.Proof.Ends
public import proofs.«01_k».proof.Proof.ProgEq
public import Idealize.ShloMosaic.Lib.Pipeline.CollectiveSegs

@[expose] public section

set_option maxRecDepth 16384
set_option synthInstance.maxSize 2048

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg) [∀ e, Nonempty (Elt F e)]

/-! ## The region's data -/

/-- What a core starts the region with. -/
def begins (c : Dev nD) : sProp (MM F) := iprop(∃ K, records m K ∗ (poss c ∗ payToks c ∗ creds c) ∗ xW m c)
/-- Before the kernel's only grid point. -/
def Φ₀ (c : Dev nD) : sProp (MM F) := iprop(begins m c ∗ scr c)
/-- After it: every semaphore closed at zero and the argument as it was. -/
def Φ₁ (c : Dev nD) : sProp (MM F) := iprop(semVal (barC c) 0 ∗ own0 c ∗ xW m c ∗ scr c)

/-- The region's proof data: one output window, left holding `OutV m`. -/
def dats (_ : Fin 1) (c : Dev nD) : Pipeline.Dat τ (Elt F) Unit ℕ UU ℕ cfg0 c where
  A w := m ((cfg0.win w).arr.view.loc (c : Thread nD τ))
  after w _ := match w with
    | ⟨0, _⟩ => OutV m
  Φ t := match t with
    | ⟨0, _⟩ => Φ₀ m c
    | ⟨_ + 1, _⟩ => Φ₁ m c
  q _ := fullShare
  owed t := match t with
    | ⟨0, _⟩ => owing c 0
    | ⟨_ + 1, _⟩ => 0

/-- The body on core `c`, from what the region hands it to what the region takes back. -/
theorem body_runs (c : Dev nD) :
    iprop(Φ₀ m c ∗ owesN c 0 ∗ pe c oM) ⊢ WP c (body (F := F)) fun _ => iprop(Φ₁ m c ∗ owesN c 26 ∗ pc c oM (OutV m)) := by
  unfold body Φ₀ begins
  simp only [Prog.lift, Prog.bind_op, Prog.bind_ret, wp_deviceId]
  show _ ⊢ WP c (bodyOn (F := F) c) _
  iintro ⟨⟨⟨%K, Hrec, Hg, Hx⟩, Hs⟩, HO, Ho⟩
  ihave H := (enter m K c) $$ [Hrec HO Hg Hx Hs Ho]
  · isplitl [Hrec]; · iexact Hrec
    isplitl [HO]; · iexact HO
    isplitl [Hg]; · iexact Hg
    isplitl [Hx]; · iexact Hx
    isplitl [Hs] <;> iassumption
  iapply (show iprop(bodyIn m K c) ⊢ WP c (bodyOn (F := F) c) fun _ => iprop(Φ₁ m c ∗ owesN c 26 ∗ pc c oM (OutV m)) from by
    have h := body_step m K c pure (fun _ => iprop(Φ₁ m c ∗ owesN c 26 ∗ pc c oM (OutV m)))
    rw [bind_pure] at h
    iintro H
    iapply h $$ H
    iintro H
    iapply (show iprop(|={Set.univ}=> (Φ₁ m c ∗ owesN c 26 ∗ pc c oM (OutV m))) ⊢ WP c (Pure.pure PUnit.unit) fun _ => iprop(Φ₁ m c ∗ owesN c 26 ∗ pc c oM (OutV m)) from .rfl)
    imodintro
    ihave H := (leave m c) $$ H
    unfold Φ₁
    icases H with ⟨HO, HB, H0, Hx, Hs, Ho⟩
    isplitr [HO Ho]
    · isplitl [HB]; · iexact HB
      isplitl [H0]; · iexact H0
      isplitl [Hx] <;> iassumption
    · isplitl [HO] <;> iassumption)
  iexact H

/-- The region's obligation: one run of the body. -/
theorem body_obligation (c : Dev nD) : Pipeline.BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc ∗ (∃ d, pc c oM ((dats m 0 c).before (0 : Fin 1) t0_0 d)))
    ⊢ WP c (cc0_body (F := F) xM (Memref.isWhole_whole _) oM (Memref.isWhole_whole _) stM (Memref.isWhole_whole _) sdM (Memref.isWhole_whole _)
      (Memref.whole cc0_scratch2) (Memref.isWhole_whole _) (Memref.whole cc0_scratch3) (Memref.isWhole_whole _)
      cc0_scratch4 cc0_scratch5 cc0_scratch6 cc0_scratch7 cc0_scratch8)
      fun _ => iprop(Φ₁ m c ∗ (dats m 0 c).owesAt () t0_0.succ ∗ pc c oM (OutV m))
  rw [body_eq]
  unfold Pipeline.Dat.owesAt Pipeline.owesWithin
  have hpost : iprop(Φ₁ m c ∗ owesN c 26 ∗ pc c oM (OutV m)) ⊢ iprop(Φ₁ m c ∗ (∃ W : Waits sig Unit, ⌜(W : Set (SemLoc sig × Unit)) ⊆ (dats m 0 c).bound () t0_0.succ⌝
      ∗ owes (c : Thread nD τ) ((dats m 0 c).owed t0_0.succ) W) ∗ pc c oM (OutV m)) := by
    unfold owesN
    rw [owing_all]
    iintro ⟨H, ⟨%W, HO⟩, Ho⟩
    isplitl [H]; · iexact H
    isplitl [HO]
    · iexists W
      isplitr; · ipureintro; exact fun _ _ => Or.inl trivial
      iexact HO
    iexact Ho
  iintro ⟨H, ⟨%W, -, HO⟩, ⟨%d, Ho⟩⟩
  have hw := (body_runs m c).trans (wp_mono _ _ _ fun _ => hpost)
  iapply hw
  isplitl [H]; · iexact H
  isplitl [HO]
  · unfold owesN; iexists W; iexact HO
  iexists _; iexact Ho

/-! ## The launch's conditions -/

theorem ownSemFacts : Pipeline.OwnSemFacts cfg0.spec osem := by decide

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owing d 0) c ∗ prngReg c (ρ c) ∗ G' m c)
      ⊢ |={Set.univ}=> iprop(begins m c ∗ emp) := by
  rw [Pipeline.unscopedRestP_none, show (Pipeline.unscopedRest cfg0.spec c (fun b => m ((c : Thread nD τ).loc b)) : sProp (MM F)) = _ from unscopedRest0_eq c _]
  unfold G' begins
  iintro ⟨Hx, Hlev, Hcr, -, ⟨%K, HM, HP, HT⟩⟩
  ihave Hc := (creds_intro (F := F) c) $$ Hcr
  imodintro
  isplitl
  · iexists K
    isplitl [HM Hlev]
    · unfold records marks; isplitl [HM] <;> iassumption
    isplitl [HP HT Hc]
    · isplitl [HP]; · iexact HP
      isplitl [HT] <;> iassumption
    iexact Hx
  · iempintro

theorem phi0_intro (c : Dev nD) :
    iprop(begins m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs] <;> iassumption

/-- What the region returns to the launch. -/
abbrev back (c : Dev nD) : sProp (MM F) := iprop(unscopedSems0 c ∗ xW m c)

theorem phi1_exit (c : Dev nD) :
    (dats m 0 c).Φ (Fin.last cfg0.N) ⊢ iprop(back m c ∗ Pipeline.ownSems0 osem c ∗ Pipeline.scopedRest cfg0.spec c) := by
  show Φ₁ m c ⊢ _
  unfold Φ₁ back
  rw [unscopedSems0_eq]
  iintro ⟨HB, H0, Hx, Hs⟩
  isplitl [HB Hx]
  · isplitl [HB] <;> iassumption
  isplitl [H0] <;> iassumption

theorem waits (c : Dev nD) : (levAts L lv : sProp (MM F)) ⊢ Pipeline.cellsWaits cfgs (dats m) () 0 c :=
  Pipeline.cellsWaits_intro cfgs (dats m) () 0 c fun w s t => by
    have hs : ∀ (w : Fin cfg0.W) (s : Fin (cfg0.win w).nbuf), keyOf (.dma ((cfg0.win w).sem s)) = none := by decide
    have h0 (n : ℕ) : (levAts L lv : sProp (MM F)) ⊢ MayWait (c : Thread nD τ) (.dma ((cfg0.win w).sem s)) () (owing c n) :=
      mayWait c _ n fun o ho => by
        show (keyOf (.dma ((cfg0.win w).sem s))).elim 0 levK < obLev o
        rw [hs]; exact obLev_pos o (List.mem_of_mem_drop ho)
    rcases t with ⟨_ | _, ht⟩
    · exact h0 0
    · have h := h0 26; rw [owing_all] at h; exact h

/-! ## The run -/

/-- The only block is the whole array. -/
theorem block_whole (i : S8192x1024.Idx) : i ∈ ((cfg0.win (0 : Fin 1)).blk t0_0).view.set := by
  show i ∈ ((View.whole main_v1).slice (win0_0.rect t0_0)).set
  rw [View.set_slice_whole, Rect.mem_set_unit]
  have e : ∀ a : Fin 2, win0_0.index t0_0 a * win0_0.size a = 0 ∧ win0_0.xsize (grid0.coords t0_0) a = S8192x1024.size a := by decide +kernel
  intro a
  show win0_0.index t0_0 a * win0_0.size a ≤ (i a).val ∧ (i a).val < win0_0.index t0_0 a * win0_0.size a + win0_0.xsize (grid0.coords t0_0) a
  rw [(e a).1, (e a).2]
  have := (i a).isLt
  omega

/-- What is written back is what the body left. -/
theorem written (c : Dev nD) : (dats m 0 c).flushed (0 : Fin 1) t0_0 = ((cfg0.win (0 : Fin 1)).blk t0_0).view.read (Elt F) (OutV m) := by
  have e0 : ∀ a : Fin 2, win0_0.index t0_0 a * win0_0.size a = 0 := by decide +kernel
  have e (G : S8192x1024.Idx → Elt F .bf16) : (cfg0.win (0 : Fin 1)).cut (cfg0.grid.coords t0_0) G = ((cfg0.win (0 : Fin 1)).blk t0_0).view.read (Elt F) G := by
    funext j
    show G _ = G (((View.whole main_v1).slice (win0_0.rect t0_0)).emb j)
    congr 1
    funext a
    apply Fin.ext
    show (j a).val = win0_0.index t0_0 a * win0_0.size a + 1 * (j a).val
    rw [e0 a]; omega
  exact e (OutV m)

/-- The result's array at the end. -/
theorem arr_end (c : Dev nD) : (dats m 0 c).arrAt (0 : Fin 1) cfg0.N = OutV m :=
  (dats m 0 c).arrAt_eq_of_cover (0 : Fin 1) (OutV m) (fun t _ => by rw [fin_N0 t]; exact written m c) fun i => ⟨t0_0, flush0_0 _, block_whole i⟩

/-- What the run leaves on one core. -/
abbrev leaves (c : Dev nD) (s : MemSt nD τ sig (Elt F)) : Prop :=
  s.mem ((c : Thread nD τ).loc main_v1) = OutV m ∧ s.mem ((c : Thread nD τ).loc main_arg0) = m ((c : Thread nD τ).loc main_arg0)

theorem read_back (c : Dev nD) (s' : Phys nD τ sig (Elt F)) :
    iprop(back m c ∗ emp ∗ SI s') ⊢ |={Set.univ}=> (iprop(⌜(∀ sm : SemLoc sig, sm.isScoped .tc = false → s'.mem.sem ((c.tc : Thread nD τ), sm) = 0)
      ∧ s'.mem.mem ((c : Thread nD τ).loc main_arg0) = m ((c : Thread nD τ).loc main_arg0)⌝ ∗ SI s') : sProp (MM F)) := by
  unfold back
  iintro ⟨⟨Hu, Hx⟩, -, HSI⟩
  ihave H := (show iprop(xW m c ∗ SI s') ⊢ iprop(⌜s'.mem.mem ((c : Thread nD τ).loc main_arg0) = m ((c : Thread nD τ).loc main_arg0)⌝ ∗ SI s') from by
    iintro ⟨Hx, HSI⟩
    icombine HSI Hx gives %h
    isplitr
    · ipureintro; exact Buf.eq_of_forall_mem_univ h
    · iexact HSI) $$ [Hx HSI]
  · isplitl [Hx] <;> iassumption
  icases H with ⟨%hx, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hx⟩
  · iexact HSI

/-- From any memory with zero counters, every weakly fair execution of the four cores' programs terminates, and at every final state each
    core's result array holds `OutV m`, its argument is unchanged and every semaphore counter is zero. -/
theorem run_main : θ_run defs (onTc (τ := τ) (main (F := F))) ⟨m, fun _ => 0, ρ⟩ (fun r => (∀ c : Dev nD, leaves m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owing d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := begins m) (Y := back m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => read_back m c s')
    (hQ := fun _ h hs => ⟨fun c => ⟨((h c).1 (0 : Fin 1)).trans (arr_end m c), (h c).2.2.2⟩, sem_eq_zero hs fun c => (h c).2.2.1⟩)

end Cert.KernelIdeal.Ring

end
-- ==== Proof.Frames.lean ====
/-
# The frame of the kernel as printed

The idealization replaced no operation, so both readings are one program: the run proved of the idealized text is the run of the printed one.
-/
module

public import proofs.«01_k».proof.Defs
public import proofs.«01_k».proof.Proof.Gen.Kernel
public import proofs.«01_k».proof.Proof.Launch

@[expose] public section

set_option maxRecDepth 65536

noncomputable section

namespace Cert.Proof

open Idealize.ShloMosaic Idealize.ShloMosaic.TcCoe Idealize.SL.Sem

/-- The frame's part of what the run ends with. -/
theorem frame_of_run {F : FTy → Type} [FloatOps F] [∀ e, Nonempty (Elt F e)]
    (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0))
      ∧ r.2.sem = fun _ => 0) :=
  (θ_run _ _ _).mono (fun _ h => ⟨fun c => (h.1 c).2, h.2⟩) (KernelIdeal.Ring.run_main m g)

/-- The two readings' body tables agree, label by label; -/
theorem bodies_eq : (Kernel.defs₀ (F := Bits)) = KernelIdeal.defs₀ := by
  unfold Kernel.defs₀ KernelIdeal.defs₀
  congr 1
  funext l a
  match l with
  | 0 => rfl
  | ⟨n + 1, h⟩ => exact absurd h (Nat.not_lt.2 (Nat.le_add_left _ _))
/-- so do the programs' tables. -/
theorem tables_eq : (Kernel.defs (F := Bits)) = KernelIdeal.defs :=
  congrArg (Pipeline.defs (KernelIdeal.pcfgs (F := Bits))) bodies_eq

theorem frame_kernel : quiescent_Kernel (hKernel := Kernel.Gen.facts) := fun m g _ =>
  (congrArg (fun D => θ_run D (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0))
      ∧ r.2.sem = fun _ => 0)) tables_eq).mpr (frame_of_run (F := Bits) m g)

theorem frame_ideal : quiescent_KernelIdeal (hKernelIdeal := KernelIdeal.Gen.facts) := fun m g _ =>
  frame_of_run (F := Ideal) m g

end Cert.Proof

end
-- ==== Proof.Value.lean ====
/-
# The kernel's result is the sum over the devices

At the extended reals narrowing changes nothing and the four hops add, in the order the ring visits them, one element of each device: the chunk which a device puts in at hop `i` is,
seen from the device that ends with the sum, always the same rows.
-/
module

public import Idealize.ShloMosaic.Lib.IdealHost
public import proofs.«01_k».proof.Proof.Pieces

@[expose] public section

set_option maxRecDepth 16384

noncomputable section

namespace Cert.KernelIdeal.Ring

open Cert.KernelIdeal Cert.KernelIdeal.Gen
open Idealize.ShloMosaic Idealize.ShloMosaic.TcCoe Idealize.SL.Sem
open scoped BigOperators

variable {F : FTy → Type} [FloatOps F] (m : (ℓ : Loc nD τ sig) → Buf (Elt F) ℓ)

theorem xOff_one : ∀ (c : Dev nD) (d : Fin 2) (i : Fin 4), xOff c d i 1 = 0 := by decide +kernel

/-- A fetched chunk, element by element. -/
theorem XC_apply (c : Dev nD) (d : Fin 2) (i : Fin 4) (j : S1024x1024.Idx) (k : S8192x1024.Idx)
    (h0 : (k 0).val = xOff c d i 0 + (j 0).val) (h1 : (k 1).val = (j 1).val) : XC m c d i j = m ((c : Thread nD τ).loc main_arg0) k := by
  unfold XC
  refine congrArg (m ((c : Thread nD τ).loc main_arg0)) (funext fun a => Fin.ext ?_)
  match a with
  | 0 => show xOff c d i 0 + 1 * (j 0).val = (k 0).val; omega
  | 1 => show xOff c d i 1 + 1 * (j 1).val = (k 1).val; rw [xOff_one]; omega

/-- The device `n` hops before `q`. -/
def back4 (q : Dev nD) (d : Fin 2) : Fin 4 → Dev nD
  | 0 => prv (prv (prv (prv q d) d) d) d
  | 1 => prv (prv (prv q d) d) d
  | 2 => prv (prv q d) d
  | 3 => prv q d

/-- The chunk it adds for `q`: always chunk `q` of the direction's half of the rows. -/
theorem row_back : ∀ (q : Dev nD) (d : Fin 2) (i : Fin 4), xOff (back4 q d i) d i 0 = 4096 * d.val + 1024 * q.val := by decide +kernel
/-- The four are all the devices. -/
theorem back_bij : ∀ (q : Dev nD) (d : Fin 2), Function.Bijective (back4 q d) := by decide +kernel

/-- The result at the extended reals. -/
theorem OutV_sum (m : (ℓ : Loc nD τ sig) → Buf (Elt Ideal) ℓ) (i : S8192x1024.Idx) :
    (OutV m i : EReal) = ∑ c : Fin 4, (show EReal from m (((c : Dev nD) : Thread nD τ).loc main_arg0) i) := by
  have hi : (i 0).val < 8192 := (i 0).isLt
  let q : Dev nD := ⟨(i 0).val / 1024 % 4, Nat.mod_lt _ (by decide)⟩
  let d : Fin 2 := Fin.ofNat 2 ((i 0).val / 4096)
  let s : Fin 2 := Fin.ofNat 2 ((i 0).val / 512)
  let j : S512x1024.Idx := ValueIdx.ix2 (n0 := 512) (n1 := 1024) ⟨(i 0).val % 512, Nat.mod_lt _ (by decide)⟩ (i 1)
  have hn : ∀ h : Fin 4, half s (XC m (back4 q d h) d h) j = m (((back4 q d h : Dev nD) : Thread nD τ).loc main_arg0) i := by
    intro h
    refine XC_apply m _ _ _ _ i ?_ rfl
    rw [row_back]
    show (i 0).val = 4096 * ((i 0).val / 4096 % 2) + 1024 * ((i 0).val / 1024 % 4) + (512 * ((i 0).val / 512 % 2) + (i 0).val % 512)
    omega
  let w : Fin 4 → EReal := fun h => half s (XC m (back4 q d h) d h) j
  have hs : (OutV m i : EReal) = w 0 + w 1 + w 2 + w 3 := rfl
  have hw : w = fun h => (show EReal from m (((back4 q d h : Dev nD) : Thread nD τ).loc main_arg0) i) := funext hn
  rw [hs, ← Fin.sum_univ_four, hw]
  exact (Equiv.ofBijective _ (back_bij q d)).sum_comp (fun c : Dev nD => (show EReal from m ((c : Thread nD τ).loc main_arg0) i))

end Cert.KernelIdeal.Ring

end
-- ==== Proof.Ref.lean ====
/-
# The run of the reference

One device holds the whole array: reshaped to four slabs, summed over the slab axis, narrowed. The run ends with that value in the result, and at the extended reals the
value at a row and a column is the sum, over the four slabs, of the argument's element there.
-/
module

public import Idealize.ShloMosaic.Lib.StableHlo.Run
public import Idealize.ShloMosaic.Lib.IdealHost
public import Idealize.ShloMosaic.Lib.Pointwise.Reduce
public import Idealize.ShloMosaic.Lib.Pipeline.Value
public import proofs.«01_k».proof.Proof.Gen.ReferenceIdeal

@[expose] public section

set_option maxRecDepth 16384

noncomputable section

namespace Cert.ReferenceIdeal.Sum

open Cert.ReferenceIdeal Cert.ReferenceIdeal.Gen
open Idealize.ShloMosaic Idealize.ShloMosaic.TcCoe Idealize.ShloMosaic.StableHlo Idealize.SL.Sem
open scoped BigOperators

variable {F : FTy → Type} [FloatOps F]

/-- The four slabs added, from zero, and narrowed. -/
def total (x : FVec F S32768x1024 .f32) : FVec F S8192x1024 .bf16 :=
  truncf .bf16 (Host.reduceAdd (shapeCast S4x8192x1024 x shapeCasts_S32768x1024_S4x8192x1024) (constant S_ .f32 0x00000000#32)
    reducesTo_S4x8192x1024_S8192x1024_d0 h_S_) bitsLt_bf16_f32

/-- The program's operations, in order. -/
abbrev line : List (HloOp τ sig (Elt F)) :=
  [ StableHlo.reshape main_arg0 main_v0 (rfl : (.f32 : EltTy) = .f32) shapeCasts_S32768x1024_S4x8192x1024,
    nullary main_cst (constant S_ .f32 0x00000000#32),
    binary main_v0 main_cst main_v1 (fun x v => Host.reduceAdd x v reducesTo_S4x8192x1024_S8192x1024_d0 h_S_),
    unary main_v1 main_v2 (truncf .bf16 · bitsLt_bf16_f32) ]

theorem main_line (c : Dev nD) : main (F := F) c = seq line := rfl

/-- What the line leaves in the result, -/
theorem line_out (V : Valuation τ sig (Elt F)) : after line V (main_v2 : DevRef τ sig) = total (V (main_arg0 : DevRef τ sig)) := by
  after_results
  rfl
/-- and in the argument. -/
theorem line_arg (V : Valuation τ sig (Elt F)) : after line V (main_arg0 : DevRef τ sig) = V (main_arg0 : DevRef τ sig) := by
  after_results

theorem no_refs : (Finset.univ.filter fun b : Ref sig .tc => b.isScoped) = ∅ := by decide
theorem no_sems : (Finset.univ.filter fun sm : SemLoc sig => sm.isScoped .tc) = ∅ := by decide

theorem line_sub : (line : List (HloOp τ sig (Elt F))).Forall fun op => op.bufs ⊆ tcRefs τ sig :=
  ⟨reshape_bufs_sub .., nullary_bufs_sub .., binary_bufs_sub .., unary_bufs_sub ..⟩

/-- The run: the result is the total, the argument is what it was. -/
theorem run_total (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v2) = total (m ((c.tc : Thread nD τ).loc main_arg0))
        ∧ r.2.mem ((c.tc : Thread nD τ).loc main_arg0) = m ((c.tc : Thread nD τ).loc main_arg0) :=
  (θ_run defs _ _).mono (fun _ h c => ⟨(h c main_v2).trans (line_out _), (h c main_arg0).trans (line_arg _)⟩)
    (run_seq no_refs no_sems defs main (fun _ => line) main_line (fun _ => line_sub) m ρ)

/-- Row `i` of slab `k`, in the whole array. -/
def slab (k : Fin 4) (i : S8192x1024.Idx) : S32768x1024.Idx :=
  ValueIdx.ix2 (n0 := 32768) (n1 := 1024) ⟨k.val * 8192 + (i 0).val, by
    have h : (i 0).val < 8192 := (i 0).isLt
    have h' := k.isLt
    omega⟩ (i 1)

/-- At the extended reals the total is the sum over the slabs. -/
theorem total_apply (x : FVec Ideal S32768x1024 .f32) (i : S8192x1024.Idx) :
    (total (F := Ideal) x i : EReal) = ∑ k : Fin 4, (x (slab k i) : EReal) := by
  show Ideal.hostReduceAdd reducesTo_S4x8192x1024_S8192x1024_d0 (shapeCast S4x8192x1024 x shapeCasts_S32768x1024_S4x8192x1024)
    (Ideal.ofBits .f32 0x00000000#32) i = _
  rw [Ideal.hostReduceAdd_r3_a0, Ideal.ofBits_zero_f32, zero_add]
  refine Finset.sum_congr rfl fun k _ => ?_
  refine shapeCast_apply x _ _ (slab k i) ?_
  rw [Shape.rowMajor_val_two, Shape.rowMajor_val_three]
  show (k.val * 8192 + (i 0).val) * 1024 + (i 1).val = _
  simp

end Cert.ReferenceIdeal.Sum

end
-- ==== Proof.Agree.lean ====
/-
# The reference's frame, and the algebraic claim

Both programs end with the sum of the devices' blocks: the kernel's result is that sum element by element, and so is the reference's, whose slab `k` is device `k`'s block.
-/
module

public import Idealize.ShloMosaic.Lib.Quiescent
public import proofs.«01_k».proof.Defs
public import proofs.«01_k».proof.Proof.Launch
public import proofs.«01_k».proof.Proof.Value
public import proofs.«01_k».proof.Proof.Ref

@[expose] public section

set_option maxRecDepth 16384

noncomputable section

namespace Cert.Proof

open Idealize.ShloMosaic Idealize.ShloMosaic.TcCoe Idealize.SL.Sem
open scoped BigOperators

/-- The reference has no semaphore to leave raised. -/
theorem frame_reference : quiescent_ReferenceIdeal (hReferenceIdeal := ReferenceIdeal.Gen.facts) := fun m g _ =>
  (θ_run ReferenceIdeal.defs _ _).mono (fun r h => ⟨fun c => (h c).2, sem_eq_zero_of_no_sems rfl r.2⟩) (ReferenceIdeal.Sum.run_total m g)

/-- The two results are one value, when each device holds its block. -/
theorem results_agree (m : (ℓ : Loc KernelIdeal.nD KernelIdeal.τ KernelIdeal.sig) → Buf (Elt Ideal) ℓ) (X : FVec Ideal ReferenceIdeal.S32768x1024 .f32)
    (hx : ∀ c : Dev KernelIdeal.nD, m ((c.tc : Thread KernelIdeal.nD KernelIdeal.τ).loc KernelIdeal.main_arg0) = Layout.block ⟨2, ![8192, 1024]⟩ ⟨2, ![32768, 1024]⟩ 0 4 c X) :
    KernelIdeal.Ring.OutV m = ReferenceIdeal.Sum.total X := by
  funext i
  refine (KernelIdeal.Ring.OutV_sum m i).trans (Eq.trans ?_ (ReferenceIdeal.Sum.total_apply X i).symm)
  refine Finset.sum_congr rfl fun c _ => ?_
  refine (congrFun (hx c) i).trans ?_
  refine congrArg X (funext fun a => Fin.ext ?_)
  match a with
  | 0 => rfl
  | 1 => rfl

theorem algebraic : algebraic_KernelIdeal_ReferenceIdeal (hKernelIdeal := KernelIdeal.Gen.facts) (hReferenceIdeal := ReferenceIdeal.Gen.facts) := by
  intro m g m' g' _ hx
  refine ⟨KernelIdeal.Ring.OutV m, ?_, ?_⟩
  · exact (θ_run KernelIdeal.defs _ _).mono (fun _ h c => h.1 c) (KernelIdeal.Ring.run_main m g)
  · exact (θ_run ReferenceIdeal.defs _ _).mono (fun _ h => ⟨(h 0).1.trans (results_agree m _ hx).symm, (h 0).2⟩) (ReferenceIdeal.Sum.run_total m' g')

end Cert.Proof

end
-- ==== Proof.lean ====
/-
# The certificate

The kernel's frame as printed and as idealized, the reference's frame, and the agreement of the two results.
-/
module

public import proofs.«01_k».proof.Defs
public import proofs.«01_k».proof.Proof.Frames
public import proofs.«01_k».proof.Proof.Agree

@[expose] public section

namespace Cert.Proof

theorem claim : Cert.Claim :=
  ⟨Cert.Kernel.Gen.facts, Cert.KernelIdeal.Gen.facts, Cert.ReferenceIdeal.Gen.facts, frame_kernel, frame_ideal, frame_reference, trivial, algebraic⟩

end Cert.Proof

end
